-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 2, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 4096]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x1024 : Shape := ⟨2, ![4096, 1024]⟩
abbrev S3x4096x128 : Shape := ⟨3, ![3, 4096, 128]⟩
abbrev S4096x128 : Shape := ⟨2, ![4096, 128]⟩
abbrev S2x4096x128 : Shape := ⟨3, ![2, 4096, 128]⟩
abbrev S3x8 : Shape := ⟨2, ![3, 8]⟩
abbrev S2x8 : Shape := ⟨2, ![2, 8]⟩
abbrev S8 : Shape := ⟨1, ![8]⟩
abbrev S1 : Shape := ⟨1, ![1]⟩
abbrev S_ : Shape := ⟨0, ![]⟩
abbrev S1x4096x128 : Shape := ⟨3, ![1, 4096, 128]⟩
abbrev S1x512x128 : Shape := ⟨3, ![1, 512, 128]⟩
abbrev S512x128 : Shape := ⟨2, ![512, 128]⟩
abbrev S1x1 : Shape := ⟨2, ![1, 1]⟩
abbrev S512x256 : Shape := ⟨2, ![512, 256]⟩

abbrev nBuf : Space → Nat
  | .hbm => 2
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .bf16⟩
  | .local _ .vmem, ⟨0, _⟩ => ⟨S4096x1024, .bf16⟩
  | .local _ .vmem, ⟨1, _⟩ => ⟨S3x4096x128, .bf16⟩
  | .local _ .vmem, ⟨2, _⟩ => ⟨S3x4096x128, .bf16⟩
  | .local _ .vmem, ⟨3, _⟩ => ⟨S4096x128, .bf16⟩
  | .local _ .vmem, ⟨4, _⟩ => ⟨S4096x128, .bf16⟩
  | .local _ .vmem, ⟨5, _⟩ => ⟨S2x4096x128, .f32⟩
  | _, _ => ⟨S1x4096x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 169 → Bool
  | ⟨i, _⟩ => dmaSemScopedAt i

abbrev sig : RefSig :=
  (ofTc nBuf bufTy 1 169 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) (c3_i32 : BitVec 32) : Fin 3 → Nat :=
  let c0_i32_64 : BitVec 32 := 0#32
  let c0_i32_69 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v43 : BitVec 32 := Scalar.addi v8 c3_i32
  let c4_i32_23 : BitVec 32 := 4#32
  let c0_i32_24 : BitVec 32 := 0#32
  let v44 : BitVec 1 := Scalar.cmpi .eq c4_i32_23 c0_i32_24
  let c1_i32_25 : BitVec 32 := 1#32
  let v45 : BitVec 32 := Scalar.select v44 c1_i32_25 c4_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c1024_i32 : BitVec 32 := 1024#32
  let v109 : BitVec 32 := Scalar.muli v53 c1024_i32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32 : BitVec 32 := 256#32
  let v110 : BitVec 32 := Scalar.muli v32 c256_i32
  let v111 : BitVec 32 := Scalar.addi v109 v110
  ![0, 0, v111.toNat]
def k0_off2 (d0 : Dev nD) (c1_i32_43 : BitVec 32) : Fin 3 → Nat :=
  let c0_i32_72 : BitVec 32 := 0#32
  let c0_i32_77 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v76 : BitVec 32 := Scalar.addi v8 c1_i32_43
  let c4_i32_44 : BitVec 32 := 4#32
  let c0_i32_45 : BitVec 32 := 0#32
  let v77 : BitVec 1 := Scalar.cmpi .eq c4_i32_44 c0_i32_45
  let c1_i32_46 : BitVec 32 := 1#32
  let v78 : BitVec 32 := Scalar.select v77 c1_i32_46 c4_i32_44
  let v79 : BitVec 32 := Scalar.remsi v76 v78
  let c0_i32_48 : BitVec 32 := 0#32
  let v81 : BitVec 1 := Scalar.cmpi .slt v79 c0_i32_48
  let c0_i32_49 : BitVec 32 := 0#32
  let v82 : BitVec 1 := Scalar.cmpi .slt v78 c0_i32_49
  let v83 : BitVec 1 := Scalar.xori v81 v82
  let c0_i32_47 : BitVec 32 := 0#32
  let v80 : BitVec 1 := Scalar.cmpi .ne v79 c0_i32_47
  let v84 : BitVec 1 := Scalar.andi v83 v80
  let v85 : BitVec 32 := Scalar.addi v79 v78
  let v86 : BitVec 32 := Scalar.select v84 v85 v79
  let c1024_i32_70 : BitVec 32 := 1024#32
  let v118 : BitVec 32 := Scalar.muli v86 c1024_i32_70
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_71 : BitVec 32 := 256#32
  let v119 : BitVec 32 := Scalar.muli v32 c256_i32_71
  let v120 : BitVec 32 := Scalar.addi v118 v119
  let c128_i32 : BitVec 32 := 128#32
  let v121 : BitVec 32 := Scalar.addi v120 c128_i32
  ![0, 0, v121.toNat]
def k0_dev1 (d0 : Dev nD) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v131 : BitVec 32 := Scalar.muli v2 c8_i32_81
  let v132 : BitVec 32 := Scalar.addi c0_i32_82 v131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v133 : BitVec 32 := Scalar.muli v5 c4_i32_83
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_84 : BitVec 32 := 1#32
  let v135 : BitVec 32 := Scalar.muli v30 c1_i32_84
  let v136 : BitVec 32 := Scalar.addi v134 v135
  v136.toNat
def k0_dev2 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v137 : BitVec 32 := Scalar.muli v2 c8_i32_86
  let v138 : BitVec 32 := Scalar.addi c0_i32_87 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v139 : BitVec 32 := Scalar.muli v5 c4_i32_88
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_89 : BitVec 32 := 1#32
  let v141 : BitVec 32 := Scalar.muli v19 c1_i32_89
  let v142 : BitVec 32 := Scalar.addi v140 v141
  v142.toNat
def k0_dev3 (d0 : Dev nD) : Nat :=
  let c0_i32_92 : BitVec 32 := 0#32
  let c1_i32_78 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v129 : BitVec 32 := Scalar.subi c1_i32_78 v2
  let c8_i32_91 : BitVec 32 := 8#32
  let v143 : BitVec 32 := Scalar.muli v129 c8_i32_91
  let v144 : BitVec 32 := Scalar.addi c0_i32_92 v143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v145 : BitVec 32 := Scalar.muli v5 c4_i32_93
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v147 : BitVec 32 := Scalar.muli v8 c1_i32_94
  let v148 : BitVec 32 := Scalar.addi v146 v147
  v148.toNat
def k0_dev4 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v149 : BitVec 32 := Scalar.muli v2 c8_i32_96
  let v150 : BitVec 32 := Scalar.addi c0_i32_97 v149
  let c1_i32_79 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v130 : BitVec 32 := Scalar.subi c1_i32_79 v5
  let c4_i32_98 : BitVec 32 := 4#32
  let v151 : BitVec 32 := Scalar.muli v130 c4_i32_98
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v153 : BitVec 32 := Scalar.muli v8 c1_i32_99
  let v154 : BitVec 32 := Scalar.addi v152 v153
  v154.toNat
def k0_dev5 (d0 : Dev nD) : Nat :=
  let c0_i32_123 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_122 : BitVec 32 := 8#32
  let v173 : BitVec 32 := Scalar.muli v2 c8_i32_122
  let v174 : BitVec 32 := Scalar.addi c0_i32_123 v173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_124 : BitVec 32 := 4#32
  let v175 : BitVec 32 := Scalar.muli v5 c4_i32_124
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_125 : BitVec 32 := 1#32
  let v177 : BitVec 32 := Scalar.muli v19 c1_i32_125
  let v178 : BitVec 32 := Scalar.addi v176 v177
  v178.toNat
def k0_dev6 (d0 : Dev nD) : Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_139 : BitVec 32 := 8#32
  let v192 : BitVec 32 := Scalar.muli v2 c8_i32_139
  let v193 : BitVec 32 := Scalar.addi c0_i32_140 v192
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v194 : BitVec 32 := Scalar.muli v5 c4_i32_141
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_142 : BitVec 32 := 1#32
  let v196 : BitVec 32 := Scalar.muli v30 c1_i32_142
  let v197 : BitVec 32 := Scalar.addi v195 v196
  v197.toNat
def k0_dev7 (d0 : Dev nD) : Nat :=
  let c0_i32_157 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_156 : BitVec 32 := 8#32
  let v211 : BitVec 32 := Scalar.muli v2 c8_i32_156
  let v212 : BitVec 32 := Scalar.addi c0_i32_157 v211
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_158 : BitVec 32 := 4#32
  let v213 : BitVec 32 := Scalar.muli v5 c4_i32_158
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_159 : BitVec 32 := 1#32
  let v215 : BitVec 32 := Scalar.muli v19 c1_i32_159
  let v216 : BitVec 32 := Scalar.addi v214 v215
  v216.toNat
def k0_dev8 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v230 : BitVec 32 := Scalar.muli v2 c8_i32_173
  let v231 : BitVec 32 := Scalar.addi c0_i32_174 v230
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v232 : BitVec 32 := Scalar.muli v5 c4_i32_175
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_176 : BitVec 32 := 1#32
  let v234 : BitVec 32 := Scalar.muli v30 c1_i32_176
  let v235 : BitVec 32 := Scalar.addi v233 v234
  v235.toNat
def k0_dev9 (d0 : Dev nD) : Nat :=
  let c0_i32_191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_190 : BitVec 32 := 8#32
  let v249 : BitVec 32 := Scalar.muli v2 c8_i32_190
  let v250 : BitVec 32 := Scalar.addi c0_i32_191 v249
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_192 : BitVec 32 := 4#32
  let v251 : BitVec 32 := Scalar.muli v5 c4_i32_192
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_193 : BitVec 32 := 1#32
  let v253 : BitVec 32 := Scalar.muli v19 c1_i32_193
  let v254 : BitVec 32 := Scalar.addi v252 v253
  v254.toNat
def k0_dev10 (d0 : Dev nD) : Nat :=
  let c0_i32_209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_208 : BitVec 32 := 8#32
  let v268 : BitVec 32 := Scalar.muli v2 c8_i32_208
  let v269 : BitVec 32 := Scalar.addi c0_i32_209 v268
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_210 : BitVec 32 := 4#32
  let v270 : BitVec 32 := Scalar.muli v5 c4_i32_210
  let v271 : BitVec 32 := Scalar.addi v269 v270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_211 : BitVec 32 := 1#32
  let v272 : BitVec 32 := Scalar.muli v30 c1_i32_211
  let v273 : BitVec 32 := Scalar.addi v271 v272
  v273.toNat
def k0_dev11 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v287 : BitVec 32 := Scalar.muli v2 c8_i32_225
  let v288 : BitVec 32 := Scalar.addi c0_i32_226 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v289 : BitVec 32 := Scalar.muli v5 c4_i32_227
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_228 : BitVec 32 := 1#32
  let v291 : BitVec 32 := Scalar.muli v19 c1_i32_228
  let v292 : BitVec 32 := Scalar.addi v290 v291
  v292.toNat
def k0_dev12 (d0 : Dev nD) : Nat :=
  let c0_i32_243 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_242 : BitVec 32 := 8#32
  let v306 : BitVec 32 := Scalar.muli v2 c8_i32_242
  let v307 : BitVec 32 := Scalar.addi c0_i32_243 v306
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_244 : BitVec 32 := 4#32
  let v308 : BitVec 32 := Scalar.muli v5 c4_i32_244
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_245 : BitVec 32 := 1#32
  let v310 : BitVec 32 := Scalar.muli v30 c1_i32_245
  let v311 : BitVec 32 := Scalar.addi v309 v310
  v311.toNat
def k0_dev13 (d0 : Dev nD) : Nat :=
  let c0_i32_260 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_259 : BitVec 32 := 8#32
  let v325 : BitVec 32 := Scalar.muli v2 c8_i32_259
  let v326 : BitVec 32 := Scalar.addi c0_i32_260 v325
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v327 : BitVec 32 := Scalar.muli v5 c4_i32_261
  let v328 : BitVec 32 := Scalar.addi v326 v327
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_262 : BitVec 32 := 1#32
  let v329 : BitVec 32 := Scalar.muli v19 c1_i32_262
  let v330 : BitVec 32 := Scalar.addi v328 v329
  v330.toNat
def k0_dev14 (d0 : Dev nD) : Nat :=
  let c0_i32_277 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_276 : BitVec 32 := 8#32
  let v344 : BitVec 32 := Scalar.muli v2 c8_i32_276
  let v345 : BitVec 32 := Scalar.addi c0_i32_277 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_278 : BitVec 32 := 4#32
  let v346 : BitVec 32 := Scalar.muli v5 c4_i32_278
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_279 : BitVec 32 := 1#32
  let v348 : BitVec 32 := Scalar.muli v30 c1_i32_279
  let v349 : BitVec 32 := Scalar.addi v347 v348
  v349.toNat
def k0_dev15 (d0 : Dev nD) : Nat :=
  let c0_i32_293 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_292 : BitVec 32 := 8#32
  let v363 : BitVec 32 := Scalar.muli v2 c8_i32_292
  let v364 : BitVec 32 := Scalar.addi c0_i32_293 v363
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_294 : BitVec 32 := 4#32
  let v365 : BitVec 32 := Scalar.muli v5 c4_i32_294
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_295 : BitVec 32 := 1#32
  let v367 : BitVec 32 := Scalar.muli v19 c1_i32_295
  let v368 : BitVec 32 := Scalar.addi v366 v367
  v368.toNat
def k0_dev16 (d0 : Dev nD) : Nat :=
  let c0_i32_310 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_309 : BitVec 32 := 8#32
  let v382 : BitVec 32 := Scalar.muli v2 c8_i32_309
  let v383 : BitVec 32 := Scalar.addi c0_i32_310 v382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_311 : BitVec 32 := 4#32
  let v384 : BitVec 32 := Scalar.muli v5 c4_i32_311
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_312 : BitVec 32 := 1#32
  let v386 : BitVec 32 := Scalar.muli v30 c1_i32_312
  let v387 : BitVec 32 := Scalar.addi v385 v386
  v387.toNat
def k0_dev17 (d0 : Dev nD) : Nat :=
  let c0_i32_326 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_325 : BitVec 32 := 8#32
  let v401 : BitVec 32 := Scalar.muli v2 c8_i32_325
  let v402 : BitVec 32 := Scalar.addi c0_i32_326 v401
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_327 : BitVec 32 := 4#32
  let v403 : BitVec 32 := Scalar.muli v5 c4_i32_327
  let v404 : BitVec 32 := Scalar.addi v402 v403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_328 : BitVec 32 := 1#32
  let v405 : BitVec 32 := Scalar.muli v19 c1_i32_328
  let v406 : BitVec 32 := Scalar.addi v404 v405
  v406.toNat
def k0_dev18 (d0 : Dev nD) : Nat :=
  let c0_i32_343 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_342 : BitVec 32 := 8#32
  let v420 : BitVec 32 := Scalar.muli v2 c8_i32_342
  let v421 : BitVec 32 := Scalar.addi c0_i32_343 v420
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_344 : BitVec 32 := 4#32
  let v422 : BitVec 32 := Scalar.muli v5 c4_i32_344
  let v423 : BitVec 32 := Scalar.addi v421 v422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_345 : BitVec 32 := 1#32
  let v424 : BitVec 32 := Scalar.muli v30 c1_i32_345
  let v425 : BitVec 32 := Scalar.addi v423 v424
  v425.toNat
def k0_dev19 (d0 : Dev nD) : Nat :=
  let c0_i32_359 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_358 : BitVec 32 := 8#32
  let v439 : BitVec 32 := Scalar.muli v2 c8_i32_358
  let v440 : BitVec 32 := Scalar.addi c0_i32_359 v439
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_360 : BitVec 32 := 4#32
  let v441 : BitVec 32 := Scalar.muli v5 c4_i32_360
  let v442 : BitVec 32 := Scalar.addi v440 v441
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_361 : BitVec 32 := 1#32
  let v443 : BitVec 32 := Scalar.muli v19 c1_i32_361
  let v444 : BitVec 32 := Scalar.addi v442 v443
  v444.toNat
def k0_dev20 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_375 : BitVec 32 := 8#32
  let v458 : BitVec 32 := Scalar.muli v2 c8_i32_375
  let v459 : BitVec 32 := Scalar.addi c0_i32_376 v458
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_377 : BitVec 32 := 4#32
  let v460 : BitVec 32 := Scalar.muli v5 c4_i32_377
  let v461 : BitVec 32 := Scalar.addi v459 v460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_378 : BitVec 32 := 1#32
  let v462 : BitVec 32 := Scalar.muli v30 c1_i32_378
  let v463 : BitVec 32 := Scalar.addi v461 v462
  v463.toNat
def k0_dev21 (d0 : Dev nD) : Nat :=
  let c0_i32_454 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_453 : BitVec 32 := 8#32
  let v534 : BitVec 32 := Scalar.muli v2 c8_i32_453
  let v535 : BitVec 32 := Scalar.addi c0_i32_454 v534
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_455 : BitVec 32 := 4#32
  let v536 : BitVec 32 := Scalar.muli v5 c4_i32_455
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_456 : BitVec 32 := 1#32
  let v538 : BitVec 32 := Scalar.muli v19 c1_i32_456
  let v539 : BitVec 32 := Scalar.addi v537 v538
  v539.toNat
def k0_dev22 (d0 : Dev nD) : Nat :=
  let c0_i32_477 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_476 : BitVec 32 := 8#32
  let v558 : BitVec 32 := Scalar.muli v2 c8_i32_476
  let v559 : BitVec 32 := Scalar.addi c0_i32_477 v558
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_478 : BitVec 32 := 4#32
  let v560 : BitVec 32 := Scalar.muli v5 c4_i32_478
  let v561 : BitVec 32 := Scalar.addi v559 v560
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_479 : BitVec 32 := 1#32
  let v562 : BitVec 32 := Scalar.muli v30 c1_i32_479
  let v563 : BitVec 32 := Scalar.addi v561 v562
  v563.toNat
def k0_dev23 (d0 : Dev nD) : Nat :=
  let c0_i32_526 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_525 : BitVec 32 := 8#32
  let v604 : BitVec 32 := Scalar.muli v2 c8_i32_525
  let v605 : BitVec 32 := Scalar.addi c0_i32_526 v604
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_527 : BitVec 32 := 4#32
  let v606 : BitVec 32 := Scalar.muli v5 c4_i32_527
  let v607 : BitVec 32 := Scalar.addi v605 v606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_528 : BitVec 32 := 1#32
  let v608 : BitVec 32 := Scalar.muli v19 c1_i32_528
  let v609 : BitVec 32 := Scalar.addi v607 v608
  v609.toNat
def k0_dev24 (d0 : Dev nD) : Nat :=
  let c0_i32_549 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_548 : BitVec 32 := 8#32
  let v628 : BitVec 32 := Scalar.muli v2 c8_i32_548
  let v629 : BitVec 32 := Scalar.addi c0_i32_549 v628
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_550 : BitVec 32 := 4#32
  let v630 : BitVec 32 := Scalar.muli v5 c4_i32_550
  let v631 : BitVec 32 := Scalar.addi v629 v630
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_551 : BitVec 32 := 1#32
  let v632 : BitVec 32 := Scalar.muli v30 c1_i32_551
  let v633 : BitVec 32 := Scalar.addi v631 v632
  v633.toNat
def k0_dev25 (d0 : Dev nD) : Nat :=
  let c0_i32_598 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_597 : BitVec 32 := 8#32
  let v674 : BitVec 32 := Scalar.muli v2 c8_i32_597
  let v675 : BitVec 32 := Scalar.addi c0_i32_598 v674
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_599 : BitVec 32 := 4#32
  let v676 : BitVec 32 := Scalar.muli v5 c4_i32_599
  let v677 : BitVec 32 := Scalar.addi v675 v676
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_600 : BitVec 32 := 1#32
  let v678 : BitVec 32 := Scalar.muli v19 c1_i32_600
  let v679 : BitVec 32 := Scalar.addi v677 v678
  v679.toNat
def k0_dev26 (d0 : Dev nD) : Nat :=
  let c0_i32_621 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_620 : BitVec 32 := 8#32
  let v698 : BitVec 32 := Scalar.muli v2 c8_i32_620
  let v699 : BitVec 32 := Scalar.addi c0_i32_621 v698
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_622 : BitVec 32 := 4#32
  let v700 : BitVec 32 := Scalar.muli v5 c4_i32_622
  let v701 : BitVec 32 := Scalar.addi v699 v700
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_623 : BitVec 32 := 1#32
  let v702 : BitVec 32 := Scalar.muli v30 c1_i32_623
  let v703 : BitVec 32 := Scalar.addi v701 v702
  v703.toNat
def k0_dev27 (d0 : Dev nD) : Nat :=
  let c0_i32_670 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_669 : BitVec 32 := 8#32
  let v744 : BitVec 32 := Scalar.muli v2 c8_i32_669
  let v745 : BitVec 32 := Scalar.addi c0_i32_670 v744
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_671 : BitVec 32 := 4#32
  let v746 : BitVec 32 := Scalar.muli v5 c4_i32_671
  let v747 : BitVec 32 := Scalar.addi v745 v746
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_672 : BitVec 32 := 1#32
  let v748 : BitVec 32 := Scalar.muli v19 c1_i32_672
  let v749 : BitVec 32 := Scalar.addi v747 v748
  v749.toNat
def k0_dev28 (d0 : Dev nD) : Nat :=
  let c0_i32_693 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_692 : BitVec 32 := 8#32
  let v768 : BitVec 32 := Scalar.muli v2 c8_i32_692
  let v769 : BitVec 32 := Scalar.addi c0_i32_693 v768
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_694 : BitVec 32 := 4#32
  let v770 : BitVec 32 := Scalar.muli v5 c4_i32_694
  let v771 : BitVec 32 := Scalar.addi v769 v770
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_695 : BitVec 32 := 1#32
  let v772 : BitVec 32 := Scalar.muli v30 c1_i32_695
  let v773 : BitVec 32 := Scalar.addi v771 v772
  v773.toNat
def k0_dev29 (d0 : Dev nD) : Nat :=
  let c0_i32_742 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_741 : BitVec 32 := 8#32
  let v814 : BitVec 32 := Scalar.muli v2 c8_i32_741
  let v815 : BitVec 32 := Scalar.addi c0_i32_742 v814
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_743 : BitVec 32 := 4#32
  let v816 : BitVec 32 := Scalar.muli v5 c4_i32_743
  let v817 : BitVec 32 := Scalar.addi v815 v816
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_744 : BitVec 32 := 1#32
  let v818 : BitVec 32 := Scalar.muli v19 c1_i32_744
  let v819 : BitVec 32 := Scalar.addi v817 v818
  v819.toNat
def k0_dev30 (d0 : Dev nD) : Nat :=
  let c0_i32_765 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_764 : BitVec 32 := 8#32
  let v838 : BitVec 32 := Scalar.muli v2 c8_i32_764
  let v839 : BitVec 32 := Scalar.addi c0_i32_765 v838
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_766 : BitVec 32 := 4#32
  let v840 : BitVec 32 := Scalar.muli v5 c4_i32_766
  let v841 : BitVec 32 := Scalar.addi v839 v840
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_767 : BitVec 32 := 1#32
  let v842 : BitVec 32 := Scalar.muli v30 c1_i32_767
  let v843 : BitVec 32 := Scalar.addi v841 v842
  v843.toNat
def k0_dev31 (d0 : Dev nD) : Nat :=
  let c0_i32_814 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_813 : BitVec 32 := 8#32
  let v884 : BitVec 32 := Scalar.muli v2 c8_i32_813
  let v885 : BitVec 32 := Scalar.addi c0_i32_814 v884
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_815 : BitVec 32 := 4#32
  let v886 : BitVec 32 := Scalar.muli v5 c4_i32_815
  let v887 : BitVec 32 := Scalar.addi v885 v886
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_816 : BitVec 32 := 1#32
  let v888 : BitVec 32 := Scalar.muli v19 c1_i32_816
  let v889 : BitVec 32 := Scalar.addi v887 v888
  v889.toNat
def k0_dev32 (d0 : Dev nD) : Nat :=
  let c0_i32_837 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_836 : BitVec 32 := 8#32
  let v908 : BitVec 32 := Scalar.muli v2 c8_i32_836
  let v909 : BitVec 32 := Scalar.addi c0_i32_837 v908
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_838 : BitVec 32 := 4#32
  let v910 : BitVec 32 := Scalar.muli v5 c4_i32_838
  let v911 : BitVec 32 := Scalar.addi v909 v910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_839 : BitVec 32 := 1#32
  let v912 : BitVec 32 := Scalar.muli v30 c1_i32_839
  let v913 : BitVec 32 := Scalar.addi v911 v912
  v913.toNat
def k0_dev33 (d0 : Dev nD) : Nat :=
  let c0_i32_886 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_885 : BitVec 32 := 8#32
  let v954 : BitVec 32 := Scalar.muli v2 c8_i32_885
  let v955 : BitVec 32 := Scalar.addi c0_i32_886 v954
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_887 : BitVec 32 := 4#32
  let v956 : BitVec 32 := Scalar.muli v5 c4_i32_887
  let v957 : BitVec 32 := Scalar.addi v955 v956
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_888 : BitVec 32 := 1#32
  let v958 : BitVec 32 := Scalar.muli v19 c1_i32_888
  let v959 : BitVec 32 := Scalar.addi v957 v958
  v959.toNat
def k0_dev34 (d0 : Dev nD) : Nat :=
  let c0_i32_909 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_908 : BitVec 32 := 8#32
  let v978 : BitVec 32 := Scalar.muli v2 c8_i32_908
  let v979 : BitVec 32 := Scalar.addi c0_i32_909 v978
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_910 : BitVec 32 := 4#32
  let v980 : BitVec 32 := Scalar.muli v5 c4_i32_910
  let v981 : BitVec 32 := Scalar.addi v979 v980
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_911 : BitVec 32 := 1#32
  let v982 : BitVec 32 := Scalar.muli v30 c1_i32_911
  let v983 : BitVec 32 := Scalar.addi v981 v982
  v983.toNat
def k0_dev35 (d0 : Dev nD) : Nat :=
  let c0_i32_958 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_957 : BitVec 32 := 8#32
  let v1024 : BitVec 32 := Scalar.muli v2 c8_i32_957
  let v1025 : BitVec 32 := Scalar.addi c0_i32_958 v1024
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_959 : BitVec 32 := 4#32
  let v1026 : BitVec 32 := Scalar.muli v5 c4_i32_959
  let v1027 : BitVec 32 := Scalar.addi v1025 v1026
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_960 : BitVec 32 := 1#32
  let v1028 : BitVec 32 := Scalar.muli v19 c1_i32_960
  let v1029 : BitVec 32 := Scalar.addi v1027 v1028
  v1029.toNat
def k0_dev36 (d0 : Dev nD) : Nat :=
  let c0_i32_981 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_980 : BitVec 32 := 8#32
  let v1048 : BitVec 32 := Scalar.muli v2 c8_i32_980
  let v1049 : BitVec 32 := Scalar.addi c0_i32_981 v1048
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_982 : BitVec 32 := 4#32
  let v1050 : BitVec 32 := Scalar.muli v5 c4_i32_982
  let v1051 : BitVec 32 := Scalar.addi v1049 v1050
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_983 : BitVec 32 := 1#32
  let v1052 : BitVec 32 := Scalar.muli v30 c1_i32_983
  let v1053 : BitVec 32 := Scalar.addi v1051 v1052
  v1053.toNat
def k0_dev37 (d0 : Dev nD) : Nat :=
  let c0_i32_1059 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1058 : BitVec 32 := 8#32
  let v1125 : BitVec 32 := Scalar.muli v2 c8_i32_1058
  let v1126 : BitVec 32 := Scalar.addi c0_i32_1059 v1125
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1060 : BitVec 32 := 4#32
  let v1127 : BitVec 32 := Scalar.muli v5 c4_i32_1060
  let v1128 : BitVec 32 := Scalar.addi v1126 v1127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1061 : BitVec 32 := 1#32
  let v1129 : BitVec 32 := Scalar.muli v19 c1_i32_1061
  let v1130 : BitVec 32 := Scalar.addi v1128 v1129
  v1130.toNat
def k0_dev38 (d0 : Dev nD) : Nat :=
  let c0_i32_1082 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1081 : BitVec 32 := 8#32
  let v1149 : BitVec 32 := Scalar.muli v2 c8_i32_1081
  let v1150 : BitVec 32 := Scalar.addi c0_i32_1082 v1149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1083 : BitVec 32 := 4#32
  let v1151 : BitVec 32 := Scalar.muli v5 c4_i32_1083
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1084 : BitVec 32 := 1#32
  let v1153 : BitVec 32 := Scalar.muli v30 c1_i32_1084
  let v1154 : BitVec 32 := Scalar.addi v1152 v1153
  v1154.toNat
def k0_dev39 (d0 : Dev nD) : Nat :=
  let c0_i32_1131 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1130 : BitVec 32 := 8#32
  let v1195 : BitVec 32 := Scalar.muli v2 c8_i32_1130
  let v1196 : BitVec 32 := Scalar.addi c0_i32_1131 v1195
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1132 : BitVec 32 := 4#32
  let v1197 : BitVec 32 := Scalar.muli v5 c4_i32_1132
  let v1198 : BitVec 32 := Scalar.addi v1196 v1197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1133 : BitVec 32 := 1#32
  let v1199 : BitVec 32 := Scalar.muli v19 c1_i32_1133
  let v1200 : BitVec 32 := Scalar.addi v1198 v1199
  v1200.toNat
def k0_dev40 (d0 : Dev nD) : Nat :=
  let c0_i32_1154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1153 : BitVec 32 := 8#32
  let v1219 : BitVec 32 := Scalar.muli v2 c8_i32_1153
  let v1220 : BitVec 32 := Scalar.addi c0_i32_1154 v1219
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1155 : BitVec 32 := 4#32
  let v1221 : BitVec 32 := Scalar.muli v5 c4_i32_1155
  let v1222 : BitVec 32 := Scalar.addi v1220 v1221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1156 : BitVec 32 := 1#32
  let v1223 : BitVec 32 := Scalar.muli v30 c1_i32_1156
  let v1224 : BitVec 32 := Scalar.addi v1222 v1223
  v1224.toNat
def k0_dev41 (d0 : Dev nD) : Nat :=
  let c0_i32_1203 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1202 : BitVec 32 := 8#32
  let v1265 : BitVec 32 := Scalar.muli v2 c8_i32_1202
  let v1266 : BitVec 32 := Scalar.addi c0_i32_1203 v1265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1204 : BitVec 32 := 4#32
  let v1267 : BitVec 32 := Scalar.muli v5 c4_i32_1204
  let v1268 : BitVec 32 := Scalar.addi v1266 v1267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1205 : BitVec 32 := 1#32
  let v1269 : BitVec 32 := Scalar.muli v19 c1_i32_1205
  let v1270 : BitVec 32 := Scalar.addi v1268 v1269
  v1270.toNat
def k0_dev42 (d0 : Dev nD) : Nat :=
  let c0_i32_1226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1225 : BitVec 32 := 8#32
  let v1289 : BitVec 32 := Scalar.muli v2 c8_i32_1225
  let v1290 : BitVec 32 := Scalar.addi c0_i32_1226 v1289
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1227 : BitVec 32 := 4#32
  let v1291 : BitVec 32 := Scalar.muli v5 c4_i32_1227
  let v1292 : BitVec 32 := Scalar.addi v1290 v1291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1228 : BitVec 32 := 1#32
  let v1293 : BitVec 32 := Scalar.muli v30 c1_i32_1228
  let v1294 : BitVec 32 := Scalar.addi v1292 v1293
  v1294.toNat
def k0_dev43 (d0 : Dev nD) : Nat :=
  let c0_i32_1275 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1274 : BitVec 32 := 8#32
  let v1335 : BitVec 32 := Scalar.muli v2 c8_i32_1274
  let v1336 : BitVec 32 := Scalar.addi c0_i32_1275 v1335
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1276 : BitVec 32 := 4#32
  let v1337 : BitVec 32 := Scalar.muli v5 c4_i32_1276
  let v1338 : BitVec 32 := Scalar.addi v1336 v1337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1277 : BitVec 32 := 1#32
  let v1339 : BitVec 32 := Scalar.muli v19 c1_i32_1277
  let v1340 : BitVec 32 := Scalar.addi v1338 v1339
  v1340.toNat
def k0_dev44 (d0 : Dev nD) : Nat :=
  let c0_i32_1298 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1297 : BitVec 32 := 8#32
  let v1359 : BitVec 32 := Scalar.muli v2 c8_i32_1297
  let v1360 : BitVec 32 := Scalar.addi c0_i32_1298 v1359
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1299 : BitVec 32 := 4#32
  let v1361 : BitVec 32 := Scalar.muli v5 c4_i32_1299
  let v1362 : BitVec 32 := Scalar.addi v1360 v1361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1300 : BitVec 32 := 1#32
  let v1363 : BitVec 32 := Scalar.muli v30 c1_i32_1300
  let v1364 : BitVec 32 := Scalar.addi v1362 v1363
  v1364.toNat
def k0_dev45 (d0 : Dev nD) : Nat :=
  let c0_i32_1347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1346 : BitVec 32 := 8#32
  let v1405 : BitVec 32 := Scalar.muli v2 c8_i32_1346
  let v1406 : BitVec 32 := Scalar.addi c0_i32_1347 v1405
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1348 : BitVec 32 := 4#32
  let v1407 : BitVec 32 := Scalar.muli v5 c4_i32_1348
  let v1408 : BitVec 32 := Scalar.addi v1406 v1407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1349 : BitVec 32 := 1#32
  let v1409 : BitVec 32 := Scalar.muli v19 c1_i32_1349
  let v1410 : BitVec 32 := Scalar.addi v1408 v1409
  v1410.toNat
def k0_dev46 (d0 : Dev nD) : Nat :=
  let c0_i32_1370 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1369 : BitVec 32 := 8#32
  let v1429 : BitVec 32 := Scalar.muli v2 c8_i32_1369
  let v1430 : BitVec 32 := Scalar.addi c0_i32_1370 v1429
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1371 : BitVec 32 := 4#32
  let v1431 : BitVec 32 := Scalar.muli v5 c4_i32_1371
  let v1432 : BitVec 32 := Scalar.addi v1430 v1431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1372 : BitVec 32 := 1#32
  let v1433 : BitVec 32 := Scalar.muli v30 c1_i32_1372
  let v1434 : BitVec 32 := Scalar.addi v1432 v1433
  v1434.toNat
def k0_dev47 (d0 : Dev nD) : Nat :=
  let c0_i32_1419 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1418 : BitVec 32 := 8#32
  let v1475 : BitVec 32 := Scalar.muli v2 c8_i32_1418
  let v1476 : BitVec 32 := Scalar.addi c0_i32_1419 v1475
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1420 : BitVec 32 := 4#32
  let v1477 : BitVec 32 := Scalar.muli v5 c4_i32_1420
  let v1478 : BitVec 32 := Scalar.addi v1476 v1477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1421 : BitVec 32 := 1#32
  let v1479 : BitVec 32 := Scalar.muli v19 c1_i32_1421
  let v1480 : BitVec 32 := Scalar.addi v1478 v1479
  v1480.toNat
def k0_dev48 (d0 : Dev nD) : Nat :=
  let c0_i32_1442 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1441 : BitVec 32 := 8#32
  let v1499 : BitVec 32 := Scalar.muli v2 c8_i32_1441
  let v1500 : BitVec 32 := Scalar.addi c0_i32_1442 v1499
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1443 : BitVec 32 := 4#32
  let v1501 : BitVec 32 := Scalar.muli v5 c4_i32_1443
  let v1502 : BitVec 32 := Scalar.addi v1500 v1501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1444 : BitVec 32 := 1#32
  let v1503 : BitVec 32 := Scalar.muli v30 c1_i32_1444
  let v1504 : BitVec 32 := Scalar.addi v1502 v1503
  v1504.toNat
def k0_dev49 (d0 : Dev nD) : Nat :=
  let c0_i32_1491 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1490 : BitVec 32 := 8#32
  let v1545 : BitVec 32 := Scalar.muli v2 c8_i32_1490
  let v1546 : BitVec 32 := Scalar.addi c0_i32_1491 v1545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1492 : BitVec 32 := 4#32
  let v1547 : BitVec 32 := Scalar.muli v5 c4_i32_1492
  let v1548 : BitVec 32 := Scalar.addi v1546 v1547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1493 : BitVec 32 := 1#32
  let v1549 : BitVec 32 := Scalar.muli v19 c1_i32_1493
  let v1550 : BitVec 32 := Scalar.addi v1548 v1549
  v1550.toNat
def k0_dev50 (d0 : Dev nD) : Nat :=
  let c0_i32_1514 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1513 : BitVec 32 := 8#32
  let v1569 : BitVec 32 := Scalar.muli v2 c8_i32_1513
  let v1570 : BitVec 32 := Scalar.addi c0_i32_1514 v1569
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1515 : BitVec 32 := 4#32
  let v1571 : BitVec 32 := Scalar.muli v5 c4_i32_1515
  let v1572 : BitVec 32 := Scalar.addi v1570 v1571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1516 : BitVec 32 := 1#32
  let v1573 : BitVec 32 := Scalar.muli v30 c1_i32_1516
  let v1574 : BitVec 32 := Scalar.addi v1572 v1573
  v1574.toNat
def k0_dev51 (d0 : Dev nD) : Nat :=
  let c0_i32_1563 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1562 : BitVec 32 := 8#32
  let v1615 : BitVec 32 := Scalar.muli v2 c8_i32_1562
  let v1616 : BitVec 32 := Scalar.addi c0_i32_1563 v1615
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1564 : BitVec 32 := 4#32
  let v1617 : BitVec 32 := Scalar.muli v5 c4_i32_1564
  let v1618 : BitVec 32 := Scalar.addi v1616 v1617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1565 : BitVec 32 := 1#32
  let v1619 : BitVec 32 := Scalar.muli v19 c1_i32_1565
  let v1620 : BitVec 32 := Scalar.addi v1618 v1619
  v1620.toNat
def k0_dev52 (d0 : Dev nD) : Nat :=
  let c0_i32_1586 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1585 : BitVec 32 := 8#32
  let v1639 : BitVec 32 := Scalar.muli v2 c8_i32_1585
  let v1640 : BitVec 32 := Scalar.addi c0_i32_1586 v1639
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1587 : BitVec 32 := 4#32
  let v1641 : BitVec 32 := Scalar.muli v5 c4_i32_1587
  let v1642 : BitVec 32 := Scalar.addi v1640 v1641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_1588 : BitVec 32 := 1#32
  let v1643 : BitVec 32 := Scalar.muli v30 c1_i32_1588
  let v1644 : BitVec 32 := Scalar.addi v1642 v1643
  v1644.toNat
def k0_off3 (d0 : Dev nD) : Fin 3 → Nat :=
  let c0_i32_1595 : BitVec 32 := 0#32
  let c0_i32_1600 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_1593 : BitVec 32 := 1024#32
  let v1653 : BitVec 32 := Scalar.muli v8 c1024_i32_1593
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1594 : BitVec 32 := 256#32
  let v1654 : BitVec 32 := Scalar.muli v32 c256_i32_1594
  let v1655 : BitVec 32 := Scalar.addi v1653 v1654
  ![0, 0, v1655.toNat]
def k0_off4 (d0 : Dev nD) : Fin 3 → Nat :=
  let c0_i32_1604 : BitVec 32 := 0#32
  let c0_i32_1609 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_1601 : BitVec 32 := 1024#32
  let v1662 : BitVec 32 := Scalar.muli v8 c1024_i32_1601
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1602 : BitVec 32 := 256#32
  let v1663 : BitVec 32 := Scalar.muli v32 c256_i32_1602
  let v1664 : BitVec 32 := Scalar.addi v1662 v1663
  let c128_i32_1603 : BitVec 32 := 128#32
  let v1665 : BitVec 32 := Scalar.addi v1664 c128_i32_1603
  ![0, 0, v1665.toNat]
def k0_off5 (d0 : Dev nD) : Fin 2 → Nat :=
  let c0_1654 : Index := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1653 : BitVec 32 := 256#32
  let v1713 : BitVec 32 := Scalar.muli v32 c256_i32_1653
  let v1714 : Index := Scalar.indexCast v1713
  ![0, v1714.toNat]
def k0_off6 (d0 : Dev nD) : Fin 2 → Nat :=
  let c0_1663 : Index := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1661 : BitVec 32 := 256#32
  let v1723 : BitVec 32 := Scalar.muli v32 c256_i32_1661
  let c128_i32_1662 : BitVec 32 := 128#32
  let v1724 : BitVec 32 := Scalar.addi v1723 c128_i32_1662
  let v1725 : Index := Scalar.indexCast v1724
  ![0, v1725.toNat]
def k0_off7 (d0 : Dev nD) : Fin 2 → Nat :=
  let c0_i32_1674 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1665 : BitVec 32 := 256#32
  let v1728 : BitVec 32 := Scalar.muli v32 c256_i32_1665
  ![0, v1728.toNat]
def k0_dev53 (d0 : Dev nD) : Nat :=
  let c0_i32_1671 : BitVec 32 := 0#32
  let c1_i32_1664 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1727 : BitVec 32 := Scalar.subi c1_i32_1664 v2
  let c8_i32_1670 : BitVec 32 := 8#32
  let v1729 : BitVec 32 := Scalar.muli v1727 c8_i32_1670
  let v1730 : BitVec 32 := Scalar.addi c0_i32_1671 v1729
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1672 : BitVec 32 := 4#32
  let v1731 : BitVec 32 := Scalar.muli v5 c4_i32_1672
  let v1732 : BitVec 32 := Scalar.addi v1730 v1731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1673 : BitVec 32 := 1#32
  let v1733 : BitVec 32 := Scalar.muli v8 c1_i32_1673
  let v1734 : BitVec 32 := Scalar.addi v1732 v1733
  v1734.toNat
def k0_dev54 (d0 : Dev nD) : Nat :=
  let c0_i32_1683 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1682 : BitVec 32 := 8#32
  let v1743 : BitVec 32 := Scalar.muli v2 c8_i32_1682
  let v1744 : BitVec 32 := Scalar.addi c0_i32_1683 v1743
  let c1_i32_1676 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1741 : BitVec 32 := Scalar.subi c1_i32_1676 v5
  let c4_i32_1684 : BitVec 32 := 4#32
  let v1745 : BitVec 32 := Scalar.muli v1741 c4_i32_1684
  let v1746 : BitVec 32 := Scalar.addi v1744 v1745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1685 : BitVec 32 := 1#32
  let v1747 : BitVec 32 := Scalar.muli v8 c1_i32_1685
  let v1748 : BitVec 32 := Scalar.addi v1746 v1747
  v1748.toNat
def k0_off8 (d0 : Dev nD) : Fin 2 → Nat :=
  let c512_1721 : Index := 512#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1720 : BitVec 32 := 256#32
  let v1784 : BitVec 32 := Scalar.muli v32 c256_i32_1720
  let v1785 : Index := Scalar.indexCast v1784
  ![512, v1785.toNat]
def k0_off9 (d0 : Dev nD) : Fin 2 → Nat :=
  let c512_1730 : Index := 512#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1728 : BitVec 32 := 256#32
  let v1794 : BitVec 32 := Scalar.muli v32 c256_i32_1728
  let c128_i32_1729 : BitVec 32 := 128#32
  let v1795 : BitVec 32 := Scalar.addi v1794 c128_i32_1729
  let v1796 : Index := Scalar.indexCast v1795
  ![512, v1796.toNat]
def k0_off10 (d0 : Dev nD) : Fin 2 → Nat :=
  let c512_i32_1741 : BitVec 32 := 512#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1732 : BitVec 32 := 256#32
  let v1799 : BitVec 32 := Scalar.muli v32 c256_i32_1732
  ![512, v1799.toNat]
def k0_dev55 (d0 : Dev nD) : Nat :=
  let c0_i32_1738 : BitVec 32 := 0#32
  let c1_i32_1731 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1798 : BitVec 32 := Scalar.subi c1_i32_1731 v2
  let c8_i32_1737 : BitVec 32 := 8#32
  let v1800 : BitVec 32 := Scalar.muli v1798 c8_i32_1737
  let v1801 : BitVec 32 := Scalar.addi c0_i32_1738 v1800
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1739 : BitVec 32 := 4#32
  let v1802 : BitVec 32 := Scalar.muli v5 c4_i32_1739
  let v1803 : BitVec 32 := Scalar.addi v1801 v1802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1740 : BitVec 32 := 1#32
  let v1804 : BitVec 32 := Scalar.muli v8 c1_i32_1740
  let v1805 : BitVec 32 := Scalar.addi v1803 v1804
  v1805.toNat
def k0_dev56 (d0 : Dev nD) : Nat :=
  let c0_i32_1750 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1749 : BitVec 32 := 8#32
  let v1814 : BitVec 32 := Scalar.muli v2 c8_i32_1749
  let v1815 : BitVec 32 := Scalar.addi c0_i32_1750 v1814
  let c1_i32_1743 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1812 : BitVec 32 := Scalar.subi c1_i32_1743 v5
  let c4_i32_1751 : BitVec 32 := 4#32
  let v1816 : BitVec 32 := Scalar.muli v1812 c4_i32_1751
  let v1817 : BitVec 32 := Scalar.addi v1815 v1816
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1752 : BitVec 32 := 1#32
  let v1818 : BitVec 32 := Scalar.muli v8 c1_i32_1752
  let v1819 : BitVec 32 := Scalar.addi v1817 v1818
  v1819.toNat
def k0_off11 (d0 : Dev nD) : Fin 2 → Nat :=
  let c1024_1788 : Index := 1024#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1787 : BitVec 32 := 256#32
  let v1855 : BitVec 32 := Scalar.muli v32 c256_i32_1787
  let v1856 : Index := Scalar.indexCast v1855
  ![1024, v1856.toNat]
def k0_off12 (d0 : Dev nD) : Fin 2 → Nat :=
  let c1024_1797 : Index := 1024#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1795 : BitVec 32 := 256#32
  let v1865 : BitVec 32 := Scalar.muli v32 c256_i32_1795
  let c128_i32_1796 : BitVec 32 := 128#32
  let v1866 : BitVec 32 := Scalar.addi v1865 c128_i32_1796
  let v1867 : Index := Scalar.indexCast v1866
  ![1024, v1867.toNat]
def k0_off13 (d0 : Dev nD) : Fin 2 → Nat :=
  let c1024_i32_1808 : BitVec 32 := 1024#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1799 : BitVec 32 := 256#32
  let v1870 : BitVec 32 := Scalar.muli v32 c256_i32_1799
  ![1024, v1870.toNat]
def k0_dev57 (d0 : Dev nD) : Nat :=
  let c0_i32_1805 : BitVec 32 := 0#32
  let c1_i32_1798 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1869 : BitVec 32 := Scalar.subi c1_i32_1798 v2
  let c8_i32_1804 : BitVec 32 := 8#32
  let v1871 : BitVec 32 := Scalar.muli v1869 c8_i32_1804
  let v1872 : BitVec 32 := Scalar.addi c0_i32_1805 v1871
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1806 : BitVec 32 := 4#32
  let v1873 : BitVec 32 := Scalar.muli v5 c4_i32_1806
  let v1874 : BitVec 32 := Scalar.addi v1872 v1873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1807 : BitVec 32 := 1#32
  let v1875 : BitVec 32 := Scalar.muli v8 c1_i32_1807
  let v1876 : BitVec 32 := Scalar.addi v1874 v1875
  v1876.toNat
def k0_dev58 (d0 : Dev nD) : Nat :=
  let c0_i32_1817 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1816 : BitVec 32 := 8#32
  let v1885 : BitVec 32 := Scalar.muli v2 c8_i32_1816
  let v1886 : BitVec 32 := Scalar.addi c0_i32_1817 v1885
  let c1_i32_1810 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1883 : BitVec 32 := Scalar.subi c1_i32_1810 v5
  let c4_i32_1818 : BitVec 32 := 4#32
  let v1887 : BitVec 32 := Scalar.muli v1883 c4_i32_1818
  let v1888 : BitVec 32 := Scalar.addi v1886 v1887
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1819 : BitVec 32 := 1#32
  let v1889 : BitVec 32 := Scalar.muli v8 c1_i32_1819
  let v1890 : BitVec 32 := Scalar.addi v1888 v1889
  v1890.toNat
def k0_off14 (d0 : Dev nD) : Fin 2 → Nat :=
  let c1536_1855 : Index := 1536#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1854 : BitVec 32 := 256#32
  let v1926 : BitVec 32 := Scalar.muli v32 c256_i32_1854
  let v1927 : Index := Scalar.indexCast v1926
  ![1536, v1927.toNat]
def k0_off15 (d0 : Dev nD) : Fin 2 → Nat :=
  let c1536_1864 : Index := 1536#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1862 : BitVec 32 := 256#32
  let v1936 : BitVec 32 := Scalar.muli v32 c256_i32_1862
  let c128_i32_1863 : BitVec 32 := 128#32
  let v1937 : BitVec 32 := Scalar.addi v1936 c128_i32_1863
  let v1938 : Index := Scalar.indexCast v1937
  ![1536, v1938.toNat]
def k0_off16 (d0 : Dev nD) : Fin 2 → Nat :=
  let c1536_i32_1875 : BitVec 32 := 1536#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1866 : BitVec 32 := 256#32
  let v1941 : BitVec 32 := Scalar.muli v32 c256_i32_1866
  ![1536, v1941.toNat]
def k0_dev59 (d0 : Dev nD) : Nat :=
  let c0_i32_1872 : BitVec 32 := 0#32
  let c1_i32_1865 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1940 : BitVec 32 := Scalar.subi c1_i32_1865 v2
  let c8_i32_1871 : BitVec 32 := 8#32
  let v1942 : BitVec 32 := Scalar.muli v1940 c8_i32_1871
  let v1943 : BitVec 32 := Scalar.addi c0_i32_1872 v1942
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1873 : BitVec 32 := 4#32
  let v1944 : BitVec 32 := Scalar.muli v5 c4_i32_1873
  let v1945 : BitVec 32 := Scalar.addi v1943 v1944
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1874 : BitVec 32 := 1#32
  let v1946 : BitVec 32 := Scalar.muli v8 c1_i32_1874
  let v1947 : BitVec 32 := Scalar.addi v1945 v1946
  v1947.toNat
def k0_dev60 (d0 : Dev nD) : Nat :=
  let c0_i32_1884 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1883 : BitVec 32 := 8#32
  let v1956 : BitVec 32 := Scalar.muli v2 c8_i32_1883
  let v1957 : BitVec 32 := Scalar.addi c0_i32_1884 v1956
  let c1_i32_1877 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1954 : BitVec 32 := Scalar.subi c1_i32_1877 v5
  let c4_i32_1885 : BitVec 32 := 4#32
  let v1958 : BitVec 32 := Scalar.muli v1954 c4_i32_1885
  let v1959 : BitVec 32 := Scalar.addi v1957 v1958
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1886 : BitVec 32 := 1#32
  let v1960 : BitVec 32 := Scalar.muli v8 c1_i32_1886
  let v1961 : BitVec 32 := Scalar.addi v1959 v1960
  v1961.toNat
def k0_off17 (d0 : Dev nD) : Fin 2 → Nat :=
  let c2048_1922 : Index := 2048#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1921 : BitVec 32 := 256#32
  let v1997 : BitVec 32 := Scalar.muli v32 c256_i32_1921
  let v1998 : Index := Scalar.indexCast v1997
  ![2048, v1998.toNat]
def k0_off18 (d0 : Dev nD) : Fin 2 → Nat :=
  let c2048_1931 : Index := 2048#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1929 : BitVec 32 := 256#32
  let v2007 : BitVec 32 := Scalar.muli v32 c256_i32_1929
  let c128_i32_1930 : BitVec 32 := 128#32
  let v2008 : BitVec 32 := Scalar.addi v2007 c128_i32_1930
  let v2009 : Index := Scalar.indexCast v2008
  ![2048, v2009.toNat]
def k0_off19 (d0 : Dev nD) : Fin 2 → Nat :=
  let c2048_i32_1942 : BitVec 32 := 2048#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1933 : BitVec 32 := 256#32
  let v2012 : BitVec 32 := Scalar.muli v32 c256_i32_1933
  ![2048, v2012.toNat]
def k0_dev61 (d0 : Dev nD) : Nat :=
  let c0_i32_1939 : BitVec 32 := 0#32
  let c1_i32_1932 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2011 : BitVec 32 := Scalar.subi c1_i32_1932 v2
  let c8_i32_1938 : BitVec 32 := 8#32
  let v2013 : BitVec 32 := Scalar.muli v2011 c8_i32_1938
  let v2014 : BitVec 32 := Scalar.addi c0_i32_1939 v2013
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1940 : BitVec 32 := 4#32
  let v2015 : BitVec 32 := Scalar.muli v5 c4_i32_1940
  let v2016 : BitVec 32 := Scalar.addi v2014 v2015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1941 : BitVec 32 := 1#32
  let v2017 : BitVec 32 := Scalar.muli v8 c1_i32_1941
  let v2018 : BitVec 32 := Scalar.addi v2016 v2017
  v2018.toNat
def k0_dev62 (d0 : Dev nD) : Nat :=
  let c0_i32_1951 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1950 : BitVec 32 := 8#32
  let v2027 : BitVec 32 := Scalar.muli v2 c8_i32_1950
  let v2028 : BitVec 32 := Scalar.addi c0_i32_1951 v2027
  let c1_i32_1944 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2025 : BitVec 32 := Scalar.subi c1_i32_1944 v5
  let c4_i32_1952 : BitVec 32 := 4#32
  let v2029 : BitVec 32 := Scalar.muli v2025 c4_i32_1952
  let v2030 : BitVec 32 := Scalar.addi v2028 v2029
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1953 : BitVec 32 := 1#32
  let v2031 : BitVec 32 := Scalar.muli v8 c1_i32_1953
  let v2032 : BitVec 32 := Scalar.addi v2030 v2031
  v2032.toNat
def k0_off20 (d0 : Dev nD) : Fin 2 → Nat :=
  let c2560_1989 : Index := 2560#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1988 : BitVec 32 := 256#32
  let v2068 : BitVec 32 := Scalar.muli v32 c256_i32_1988
  let v2069 : Index := Scalar.indexCast v2068
  ![2560, v2069.toNat]
def k0_off21 (d0 : Dev nD) : Fin 2 → Nat :=
  let c2560_1998 : Index := 2560#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_1996 : BitVec 32 := 256#32
  let v2078 : BitVec 32 := Scalar.muli v32 c256_i32_1996
  let c128_i32_1997 : BitVec 32 := 128#32
  let v2079 : BitVec 32 := Scalar.addi v2078 c128_i32_1997
  let v2080 : Index := Scalar.indexCast v2079
  ![2560, v2080.toNat]
def k0_off22 (d0 : Dev nD) : Fin 2 → Nat :=
  let c2560_i32_2009 : BitVec 32 := 2560#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_2000 : BitVec 32 := 256#32
  let v2083 : BitVec 32 := Scalar.muli v32 c256_i32_2000
  ![2560, v2083.toNat]
def k0_dev63 (d0 : Dev nD) : Nat :=
  let c0_i32_2006 : BitVec 32 := 0#32
  let c1_i32_1999 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2082 : BitVec 32 := Scalar.subi c1_i32_1999 v2
  let c8_i32_2005 : BitVec 32 := 8#32
  let v2084 : BitVec 32 := Scalar.muli v2082 c8_i32_2005
  let v2085 : BitVec 32 := Scalar.addi c0_i32_2006 v2084
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2007 : BitVec 32 := 4#32
  let v2086 : BitVec 32 := Scalar.muli v5 c4_i32_2007
  let v2087 : BitVec 32 := Scalar.addi v2085 v2086
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2008 : BitVec 32 := 1#32
  let v2088 : BitVec 32 := Scalar.muli v8 c1_i32_2008
  let v2089 : BitVec 32 := Scalar.addi v2087 v2088
  v2089.toNat
def k0_dev64 (d0 : Dev nD) : Nat :=
  let c0_i32_2018 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2017 : BitVec 32 := 8#32
  let v2098 : BitVec 32 := Scalar.muli v2 c8_i32_2017
  let v2099 : BitVec 32 := Scalar.addi c0_i32_2018 v2098
  let c1_i32_2011 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2096 : BitVec 32 := Scalar.subi c1_i32_2011 v5
  let c4_i32_2019 : BitVec 32 := 4#32
  let v2100 : BitVec 32 := Scalar.muli v2096 c4_i32_2019
  let v2101 : BitVec 32 := Scalar.addi v2099 v2100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2020 : BitVec 32 := 1#32
  let v2102 : BitVec 32 := Scalar.muli v8 c1_i32_2020
  let v2103 : BitVec 32 := Scalar.addi v2101 v2102
  v2103.toNat
def k0_off23 (d0 : Dev nD) : Fin 2 → Nat :=
  let c3072_2056 : Index := 3072#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_2055 : BitVec 32 := 256#32
  let v2139 : BitVec 32 := Scalar.muli v32 c256_i32_2055
  let v2140 : Index := Scalar.indexCast v2139
  ![3072, v2140.toNat]
def k0_off24 (d0 : Dev nD) : Fin 2 → Nat :=
  let c3072_2065 : Index := 3072#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_2063 : BitVec 32 := 256#32
  let v2149 : BitVec 32 := Scalar.muli v32 c256_i32_2063
  let c128_i32_2064 : BitVec 32 := 128#32
  let v2150 : BitVec 32 := Scalar.addi v2149 c128_i32_2064
  let v2151 : Index := Scalar.indexCast v2150
  ![3072, v2151.toNat]
def k0_off25 (d0 : Dev nD) : Fin 2 → Nat :=
  let c3072_i32_2076 : BitVec 32 := 3072#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_2067 : BitVec 32 := 256#32
  let v2154 : BitVec 32 := Scalar.muli v32 c256_i32_2067
  ![3072, v2154.toNat]
def k0_dev65 (d0 : Dev nD) : Nat :=
  let c0_i32_2073 : BitVec 32 := 0#32
  let c1_i32_2066 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2153 : BitVec 32 := Scalar.subi c1_i32_2066 v2
  let c8_i32_2072 : BitVec 32 := 8#32
  let v2155 : BitVec 32 := Scalar.muli v2153 c8_i32_2072
  let v2156 : BitVec 32 := Scalar.addi c0_i32_2073 v2155
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2074 : BitVec 32 := 4#32
  let v2157 : BitVec 32 := Scalar.muli v5 c4_i32_2074
  let v2158 : BitVec 32 := Scalar.addi v2156 v2157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2075 : BitVec 32 := 1#32
  let v2159 : BitVec 32 := Scalar.muli v8 c1_i32_2075
  let v2160 : BitVec 32 := Scalar.addi v2158 v2159
  v2160.toNat
def k0_dev66 (d0 : Dev nD) : Nat :=
  let c0_i32_2085 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2084 : BitVec 32 := 8#32
  let v2169 : BitVec 32 := Scalar.muli v2 c8_i32_2084
  let v2170 : BitVec 32 := Scalar.addi c0_i32_2085 v2169
  let c1_i32_2078 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2167 : BitVec 32 := Scalar.subi c1_i32_2078 v5
  let c4_i32_2086 : BitVec 32 := 4#32
  let v2171 : BitVec 32 := Scalar.muli v2167 c4_i32_2086
  let v2172 : BitVec 32 := Scalar.addi v2170 v2171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2087 : BitVec 32 := 1#32
  let v2173 : BitVec 32 := Scalar.muli v8 c1_i32_2087
  let v2174 : BitVec 32 := Scalar.addi v2172 v2173
  v2174.toNat
def k0_off26 (d0 : Dev nD) : Fin 2 → Nat :=
  let c3584_2123 : Index := 3584#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_2122 : BitVec 32 := 256#32
  let v2210 : BitVec 32 := Scalar.muli v32 c256_i32_2122
  let v2211 : Index := Scalar.indexCast v2210
  ![3584, v2211.toNat]
def k0_off27 (d0 : Dev nD) : Fin 2 → Nat :=
  let c3584_2132 : Index := 3584#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_2130 : BitVec 32 := 256#32
  let v2220 : BitVec 32 := Scalar.muli v32 c256_i32_2130
  let c128_i32_2131 : BitVec 32 := 128#32
  let v2221 : BitVec 32 := Scalar.addi v2220 c128_i32_2131
  let v2222 : Index := Scalar.indexCast v2221
  ![3584, v2222.toNat]
def k0_off28 (d0 : Dev nD) : Fin 2 → Nat :=
  let c3584_i32_2143 : BitVec 32 := 3584#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v31 v5
  let c256_i32_2134 : BitVec 32 := 256#32
  let v2225 : BitVec 32 := Scalar.muli v32 c256_i32_2134
  ![3584, v2225.toNat]
def k0_dev67 (d0 : Dev nD) : Nat :=
  let c0_i32_2140 : BitVec 32 := 0#32
  let c1_i32_2133 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2224 : BitVec 32 := Scalar.subi c1_i32_2133 v2
  let c8_i32_2139 : BitVec 32 := 8#32
  let v2226 : BitVec 32 := Scalar.muli v2224 c8_i32_2139
  let v2227 : BitVec 32 := Scalar.addi c0_i32_2140 v2226
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2141 : BitVec 32 := 4#32
  let v2228 : BitVec 32 := Scalar.muli v5 c4_i32_2141
  let v2229 : BitVec 32 := Scalar.addi v2227 v2228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2142 : BitVec 32 := 1#32
  let v2230 : BitVec 32 := Scalar.muli v8 c1_i32_2142
  let v2231 : BitVec 32 := Scalar.addi v2229 v2230
  v2231.toNat
def k0_dev68 (d0 : Dev nD) : Nat :=
  let c0_i32_2152 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2151 : BitVec 32 := 8#32
  let v2240 : BitVec 32 := Scalar.muli v2 c8_i32_2151
  let v2241 : BitVec 32 := Scalar.addi c0_i32_2152 v2240
  let c1_i32_2145 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2238 : BitVec 32 := Scalar.subi c1_i32_2145 v5
  let c4_i32_2153 : BitVec 32 := 4#32
  let v2242 : BitVec 32 := Scalar.muli v2238 c4_i32_2153
  let v2243 : BitVec 32 := Scalar.addi v2241 v2242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2154 : BitVec 32 := 1#32
  let v2244 : BitVec 32 := Scalar.muli v8 c1_i32_2154
  let v2245 : BitVec 32 := Scalar.addi v2243 v2244
  v2245.toNat
def k0_off29 (d0 : Dev nD) : Fin 2 → Nat :=
  let c0_i32_2167 : BitVec 32 := 0#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2158 : BitVec 32 := 256#32
  let v2253 : BitVec 32 := Scalar.muli v35 c256_i32_2158
  ![0, v2253.toNat]
def k0_off30 (d0 : Dev nD) : Fin 2 → Nat :=
  let c0_i32_2179 : BitVec 32 := 0#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2170 : BitVec 32 := 256#32
  let v2265 : BitVec 32 := Scalar.muli v35 c256_i32_2170
  ![0, v2265.toNat]
def k0_dev69 (d0 : Dev nD) : Nat :=
  let c0_i32_2176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2175 : BitVec 32 := 8#32
  let v2266 : BitVec 32 := Scalar.muli v2 c8_i32_2175
  let v2267 : BitVec 32 := Scalar.addi c0_i32_2176 v2266
  let c1_i32_2169 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2264 : BitVec 32 := Scalar.subi c1_i32_2169 v5
  let c4_i32_2177 : BitVec 32 := 4#32
  let v2268 : BitVec 32 := Scalar.muli v2264 c4_i32_2177
  let v2269 : BitVec 32 := Scalar.addi v2267 v2268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2178 : BitVec 32 := 1#32
  let v2270 : BitVec 32 := Scalar.muli v8 c1_i32_2178
  let v2271 : BitVec 32 := Scalar.addi v2269 v2270
  v2271.toNat
def k0_off31 (d0 : Dev nD) : Fin 2 → Nat :=
  let c512_i32_2191 : BitVec 32 := 512#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2182 : BitVec 32 := 256#32
  let v2279 : BitVec 32 := Scalar.muli v35 c256_i32_2182
  ![512, v2279.toNat]
def k0_off32 (d0 : Dev nD) : Fin 2 → Nat :=
  let c512_i32_2203 : BitVec 32 := 512#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2194 : BitVec 32 := 256#32
  let v2291 : BitVec 32 := Scalar.muli v35 c256_i32_2194
  ![512, v2291.toNat]
def k0_dev70 (d0 : Dev nD) : Nat :=
  let c0_i32_2200 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2199 : BitVec 32 := 8#32
  let v2292 : BitVec 32 := Scalar.muli v2 c8_i32_2199
  let v2293 : BitVec 32 := Scalar.addi c0_i32_2200 v2292
  let c1_i32_2193 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2290 : BitVec 32 := Scalar.subi c1_i32_2193 v5
  let c4_i32_2201 : BitVec 32 := 4#32
  let v2294 : BitVec 32 := Scalar.muli v2290 c4_i32_2201
  let v2295 : BitVec 32 := Scalar.addi v2293 v2294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2202 : BitVec 32 := 1#32
  let v2296 : BitVec 32 := Scalar.muli v8 c1_i32_2202
  let v2297 : BitVec 32 := Scalar.addi v2295 v2296
  v2297.toNat
def k0_off33 (d0 : Dev nD) : Fin 2 → Nat :=
  let c1024_i32_2215 : BitVec 32 := 1024#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2206 : BitVec 32 := 256#32
  let v2305 : BitVec 32 := Scalar.muli v35 c256_i32_2206
  ![1024, v2305.toNat]
def k0_off34 (d0 : Dev nD) : Fin 2 → Nat :=
  let c1024_i32_2227 : BitVec 32 := 1024#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2218 : BitVec 32 := 256#32
  let v2317 : BitVec 32 := Scalar.muli v35 c256_i32_2218
  ![1024, v2317.toNat]
def k0_dev71 (d0 : Dev nD) : Nat :=
  let c0_i32_2224 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2223 : BitVec 32 := 8#32
  let v2318 : BitVec 32 := Scalar.muli v2 c8_i32_2223
  let v2319 : BitVec 32 := Scalar.addi c0_i32_2224 v2318
  let c1_i32_2217 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2316 : BitVec 32 := Scalar.subi c1_i32_2217 v5
  let c4_i32_2225 : BitVec 32 := 4#32
  let v2320 : BitVec 32 := Scalar.muli v2316 c4_i32_2225
  let v2321 : BitVec 32 := Scalar.addi v2319 v2320
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2226 : BitVec 32 := 1#32
  let v2322 : BitVec 32 := Scalar.muli v8 c1_i32_2226
  let v2323 : BitVec 32 := Scalar.addi v2321 v2322
  v2323.toNat
def k0_off35 (d0 : Dev nD) : Fin 2 → Nat :=
  let c1536_i32_2239 : BitVec 32 := 1536#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2230 : BitVec 32 := 256#32
  let v2331 : BitVec 32 := Scalar.muli v35 c256_i32_2230
  ![1536, v2331.toNat]
def k0_off36 (d0 : Dev nD) : Fin 2 → Nat :=
  let c1536_i32_2251 : BitVec 32 := 1536#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2242 : BitVec 32 := 256#32
  let v2343 : BitVec 32 := Scalar.muli v35 c256_i32_2242
  ![1536, v2343.toNat]
def k0_dev72 (d0 : Dev nD) : Nat :=
  let c0_i32_2248 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2247 : BitVec 32 := 8#32
  let v2344 : BitVec 32 := Scalar.muli v2 c8_i32_2247
  let v2345 : BitVec 32 := Scalar.addi c0_i32_2248 v2344
  let c1_i32_2241 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2342 : BitVec 32 := Scalar.subi c1_i32_2241 v5
  let c4_i32_2249 : BitVec 32 := 4#32
  let v2346 : BitVec 32 := Scalar.muli v2342 c4_i32_2249
  let v2347 : BitVec 32 := Scalar.addi v2345 v2346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2250 : BitVec 32 := 1#32
  let v2348 : BitVec 32 := Scalar.muli v8 c1_i32_2250
  let v2349 : BitVec 32 := Scalar.addi v2347 v2348
  v2349.toNat
def k0_off37 (d0 : Dev nD) : Fin 2 → Nat :=
  let c2048_i32_2263 : BitVec 32 := 2048#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2254 : BitVec 32 := 256#32
  let v2357 : BitVec 32 := Scalar.muli v35 c256_i32_2254
  ![2048, v2357.toNat]
def k0_off38 (d0 : Dev nD) : Fin 2 → Nat :=
  let c2048_i32_2275 : BitVec 32 := 2048#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2266 : BitVec 32 := 256#32
  let v2369 : BitVec 32 := Scalar.muli v35 c256_i32_2266
  ![2048, v2369.toNat]
def k0_dev73 (d0 : Dev nD) : Nat :=
  let c0_i32_2272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2271 : BitVec 32 := 8#32
  let v2370 : BitVec 32 := Scalar.muli v2 c8_i32_2271
  let v2371 : BitVec 32 := Scalar.addi c0_i32_2272 v2370
  let c1_i32_2265 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2368 : BitVec 32 := Scalar.subi c1_i32_2265 v5
  let c4_i32_2273 : BitVec 32 := 4#32
  let v2372 : BitVec 32 := Scalar.muli v2368 c4_i32_2273
  let v2373 : BitVec 32 := Scalar.addi v2371 v2372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2274 : BitVec 32 := 1#32
  let v2374 : BitVec 32 := Scalar.muli v8 c1_i32_2274
  let v2375 : BitVec 32 := Scalar.addi v2373 v2374
  v2375.toNat
def k0_off39 (d0 : Dev nD) : Fin 2 → Nat :=
  let c2560_i32_2287 : BitVec 32 := 2560#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2278 : BitVec 32 := 256#32
  let v2383 : BitVec 32 := Scalar.muli v35 c256_i32_2278
  ![2560, v2383.toNat]
def k0_off40 (d0 : Dev nD) : Fin 2 → Nat :=
  let c2560_i32_2299 : BitVec 32 := 2560#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2290 : BitVec 32 := 256#32
  let v2395 : BitVec 32 := Scalar.muli v35 c256_i32_2290
  ![2560, v2395.toNat]
def k0_dev74 (d0 : Dev nD) : Nat :=
  let c0_i32_2296 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2295 : BitVec 32 := 8#32
  let v2396 : BitVec 32 := Scalar.muli v2 c8_i32_2295
  let v2397 : BitVec 32 := Scalar.addi c0_i32_2296 v2396
  let c1_i32_2289 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2394 : BitVec 32 := Scalar.subi c1_i32_2289 v5
  let c4_i32_2297 : BitVec 32 := 4#32
  let v2398 : BitVec 32 := Scalar.muli v2394 c4_i32_2297
  let v2399 : BitVec 32 := Scalar.addi v2397 v2398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2298 : BitVec 32 := 1#32
  let v2400 : BitVec 32 := Scalar.muli v8 c1_i32_2298
  let v2401 : BitVec 32 := Scalar.addi v2399 v2400
  v2401.toNat
def k0_off41 (d0 : Dev nD) : Fin 2 → Nat :=
  let c3072_i32_2311 : BitVec 32 := 3072#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2302 : BitVec 32 := 256#32
  let v2409 : BitVec 32 := Scalar.muli v35 c256_i32_2302
  ![3072, v2409.toNat]
def k0_off42 (d0 : Dev nD) : Fin 2 → Nat :=
  let c3072_i32_2323 : BitVec 32 := 3072#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2314 : BitVec 32 := 256#32
  let v2421 : BitVec 32 := Scalar.muli v35 c256_i32_2314
  ![3072, v2421.toNat]
def k0_dev75 (d0 : Dev nD) : Nat :=
  let c0_i32_2320 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2319 : BitVec 32 := 8#32
  let v2422 : BitVec 32 := Scalar.muli v2 c8_i32_2319
  let v2423 : BitVec 32 := Scalar.addi c0_i32_2320 v2422
  let c1_i32_2313 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2420 : BitVec 32 := Scalar.subi c1_i32_2313 v5
  let c4_i32_2321 : BitVec 32 := 4#32
  let v2424 : BitVec 32 := Scalar.muli v2420 c4_i32_2321
  let v2425 : BitVec 32 := Scalar.addi v2423 v2424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2322 : BitVec 32 := 1#32
  let v2426 : BitVec 32 := Scalar.muli v8 c1_i32_2322
  let v2427 : BitVec 32 := Scalar.addi v2425 v2426
  v2427.toNat
def k0_off43 (d0 : Dev nD) : Fin 2 → Nat :=
  let c3584_i32_2335 : BitVec 32 := 3584#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2326 : BitVec 32 := 256#32
  let v2435 : BitVec 32 := Scalar.muli v35 c256_i32_2326
  ![3584, v2435.toNat]
def k0_off44 (d0 : Dev nD) : Fin 2 → Nat :=
  let c3584_i32_2347 : BitVec 32 := 3584#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.subi c1_i32_16 v2
  let v34 : BitVec 32 := Scalar.muli c2_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.addi v34 v5
  let c256_i32_2338 : BitVec 32 := 256#32
  let v2447 : BitVec 32 := Scalar.muli v35 c256_i32_2338
  ![3584, v2447.toNat]
def k0_dev76 (d0 : Dev nD) : Nat :=
  let c0_i32_2344 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2343 : BitVec 32 := 8#32
  let v2448 : BitVec 32 := Scalar.muli v2 c8_i32_2343
  let v2449 : BitVec 32 := Scalar.addi c0_i32_2344 v2448
  let c1_i32_2337 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v2446 : BitVec 32 := Scalar.subi c1_i32_2337 v5
  let c4_i32_2345 : BitVec 32 := 4#32
  let v2450 : BitVec 32 := Scalar.muli v2446 c4_i32_2345
  let v2451 : BitVec 32 := Scalar.addi v2449 v2450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2346 : BitVec 32 := 1#32
  let v2452 : BitVec 32 := Scalar.muli v8 c1_i32_2346
  let v2453 : BitVec 32 := Scalar.addi v2451 v2452
  v2453.toNat
def k0_off45 (d0 : Dev nD) : Fin 2 → Nat :=
  let c0_i32_2359 : BitVec 32 := 0#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2350 : BitVec 32 := 256#32
  let v2461 : BitVec 32 := Scalar.muli v38 c256_i32_2350
  ![0, v2461.toNat]
def k0_off46 (d0 : Dev nD) : Fin 2 → Nat :=
  let c0_i32_2372 : BitVec 32 := 0#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2362 : BitVec 32 := 256#32
  let v2473 : BitVec 32 := Scalar.muli v38 c256_i32_2362
  let c128_i32_2363 : BitVec 32 := 128#32
  let v2474 : BitVec 32 := Scalar.addi v2473 c128_i32_2363
  ![0, v2474.toNat]
def k0_dev77 (d0 : Dev nD) : Nat :=
  let c0_i32_2369 : BitVec 32 := 0#32
  let c1_i32_2361 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2472 : BitVec 32 := Scalar.subi c1_i32_2361 v2
  let c8_i32_2368 : BitVec 32 := 8#32
  let v2475 : BitVec 32 := Scalar.muli v2472 c8_i32_2368
  let v2476 : BitVec 32 := Scalar.addi c0_i32_2369 v2475
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2370 : BitVec 32 := 4#32
  let v2477 : BitVec 32 := Scalar.muli v5 c4_i32_2370
  let v2478 : BitVec 32 := Scalar.addi v2476 v2477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2371 : BitVec 32 := 1#32
  let v2479 : BitVec 32 := Scalar.muli v8 c1_i32_2371
  let v2480 : BitVec 32 := Scalar.addi v2478 v2479
  v2480.toNat
def k0_off47 (d0 : Dev nD) : Fin 2 → Nat :=
  let c512_i32_2384 : BitVec 32 := 512#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2375 : BitVec 32 := 256#32
  let v2488 : BitVec 32 := Scalar.muli v38 c256_i32_2375
  ![512, v2488.toNat]
def k0_off48 (d0 : Dev nD) : Fin 2 → Nat :=
  let c512_i32_2397 : BitVec 32 := 512#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2387 : BitVec 32 := 256#32
  let v2500 : BitVec 32 := Scalar.muli v38 c256_i32_2387
  let c128_i32_2388 : BitVec 32 := 128#32
  let v2501 : BitVec 32 := Scalar.addi v2500 c128_i32_2388
  ![512, v2501.toNat]
def k0_dev78 (d0 : Dev nD) : Nat :=
  let c0_i32_2394 : BitVec 32 := 0#32
  let c1_i32_2386 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2499 : BitVec 32 := Scalar.subi c1_i32_2386 v2
  let c8_i32_2393 : BitVec 32 := 8#32
  let v2502 : BitVec 32 := Scalar.muli v2499 c8_i32_2393
  let v2503 : BitVec 32 := Scalar.addi c0_i32_2394 v2502
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2395 : BitVec 32 := 4#32
  let v2504 : BitVec 32 := Scalar.muli v5 c4_i32_2395
  let v2505 : BitVec 32 := Scalar.addi v2503 v2504
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2396 : BitVec 32 := 1#32
  let v2506 : BitVec 32 := Scalar.muli v8 c1_i32_2396
  let v2507 : BitVec 32 := Scalar.addi v2505 v2506
  v2507.toNat
def k0_off49 (d0 : Dev nD) : Fin 2 → Nat :=
  let c1024_i32_2409 : BitVec 32 := 1024#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2400 : BitVec 32 := 256#32
  let v2515 : BitVec 32 := Scalar.muli v38 c256_i32_2400
  ![1024, v2515.toNat]
def k0_off50 (d0 : Dev nD) : Fin 2 → Nat :=
  let c1024_i32_2422 : BitVec 32 := 1024#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2412 : BitVec 32 := 256#32
  let v2527 : BitVec 32 := Scalar.muli v38 c256_i32_2412
  let c128_i32_2413 : BitVec 32 := 128#32
  let v2528 : BitVec 32 := Scalar.addi v2527 c128_i32_2413
  ![1024, v2528.toNat]
def k0_dev79 (d0 : Dev nD) : Nat :=
  let c0_i32_2419 : BitVec 32 := 0#32
  let c1_i32_2411 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2526 : BitVec 32 := Scalar.subi c1_i32_2411 v2
  let c8_i32_2418 : BitVec 32 := 8#32
  let v2529 : BitVec 32 := Scalar.muli v2526 c8_i32_2418
  let v2530 : BitVec 32 := Scalar.addi c0_i32_2419 v2529
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2420 : BitVec 32 := 4#32
  let v2531 : BitVec 32 := Scalar.muli v5 c4_i32_2420
  let v2532 : BitVec 32 := Scalar.addi v2530 v2531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2421 : BitVec 32 := 1#32
  let v2533 : BitVec 32 := Scalar.muli v8 c1_i32_2421
  let v2534 : BitVec 32 := Scalar.addi v2532 v2533
  v2534.toNat
def k0_off51 (d0 : Dev nD) : Fin 2 → Nat :=
  let c1536_i32_2434 : BitVec 32 := 1536#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2425 : BitVec 32 := 256#32
  let v2542 : BitVec 32 := Scalar.muli v38 c256_i32_2425
  ![1536, v2542.toNat]
def k0_off52 (d0 : Dev nD) : Fin 2 → Nat :=
  let c1536_i32_2447 : BitVec 32 := 1536#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2437 : BitVec 32 := 256#32
  let v2554 : BitVec 32 := Scalar.muli v38 c256_i32_2437
  let c128_i32_2438 : BitVec 32 := 128#32
  let v2555 : BitVec 32 := Scalar.addi v2554 c128_i32_2438
  ![1536, v2555.toNat]
def k0_dev80 (d0 : Dev nD) : Nat :=
  let c0_i32_2444 : BitVec 32 := 0#32
  let c1_i32_2436 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2553 : BitVec 32 := Scalar.subi c1_i32_2436 v2
  let c8_i32_2443 : BitVec 32 := 8#32
  let v2556 : BitVec 32 := Scalar.muli v2553 c8_i32_2443
  let v2557 : BitVec 32 := Scalar.addi c0_i32_2444 v2556
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2445 : BitVec 32 := 4#32
  let v2558 : BitVec 32 := Scalar.muli v5 c4_i32_2445
  let v2559 : BitVec 32 := Scalar.addi v2557 v2558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2446 : BitVec 32 := 1#32
  let v2560 : BitVec 32 := Scalar.muli v8 c1_i32_2446
  let v2561 : BitVec 32 := Scalar.addi v2559 v2560
  v2561.toNat
def k0_off53 (d0 : Dev nD) : Fin 2 → Nat :=
  let c2048_i32_2459 : BitVec 32 := 2048#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2450 : BitVec 32 := 256#32
  let v2569 : BitVec 32 := Scalar.muli v38 c256_i32_2450
  ![2048, v2569.toNat]
def k0_off54 (d0 : Dev nD) : Fin 2 → Nat :=
  let c2048_i32_2472 : BitVec 32 := 2048#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2462 : BitVec 32 := 256#32
  let v2581 : BitVec 32 := Scalar.muli v38 c256_i32_2462
  let c128_i32_2463 : BitVec 32 := 128#32
  let v2582 : BitVec 32 := Scalar.addi v2581 c128_i32_2463
  ![2048, v2582.toNat]
def k0_dev81 (d0 : Dev nD) : Nat :=
  let c0_i32_2469 : BitVec 32 := 0#32
  let c1_i32_2461 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2580 : BitVec 32 := Scalar.subi c1_i32_2461 v2
  let c8_i32_2468 : BitVec 32 := 8#32
  let v2583 : BitVec 32 := Scalar.muli v2580 c8_i32_2468
  let v2584 : BitVec 32 := Scalar.addi c0_i32_2469 v2583
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2470 : BitVec 32 := 4#32
  let v2585 : BitVec 32 := Scalar.muli v5 c4_i32_2470
  let v2586 : BitVec 32 := Scalar.addi v2584 v2585
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2471 : BitVec 32 := 1#32
  let v2587 : BitVec 32 := Scalar.muli v8 c1_i32_2471
  let v2588 : BitVec 32 := Scalar.addi v2586 v2587
  v2588.toNat
def k0_off55 (d0 : Dev nD) : Fin 2 → Nat :=
  let c2560_i32_2484 : BitVec 32 := 2560#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2475 : BitVec 32 := 256#32
  let v2596 : BitVec 32 := Scalar.muli v38 c256_i32_2475
  ![2560, v2596.toNat]
def k0_off56 (d0 : Dev nD) : Fin 2 → Nat :=
  let c2560_i32_2497 : BitVec 32 := 2560#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2487 : BitVec 32 := 256#32
  let v2608 : BitVec 32 := Scalar.muli v38 c256_i32_2487
  let c128_i32_2488 : BitVec 32 := 128#32
  let v2609 : BitVec 32 := Scalar.addi v2608 c128_i32_2488
  ![2560, v2609.toNat]
def k0_dev82 (d0 : Dev nD) : Nat :=
  let c0_i32_2494 : BitVec 32 := 0#32
  let c1_i32_2486 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2607 : BitVec 32 := Scalar.subi c1_i32_2486 v2
  let c8_i32_2493 : BitVec 32 := 8#32
  let v2610 : BitVec 32 := Scalar.muli v2607 c8_i32_2493
  let v2611 : BitVec 32 := Scalar.addi c0_i32_2494 v2610
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2495 : BitVec 32 := 4#32
  let v2612 : BitVec 32 := Scalar.muli v5 c4_i32_2495
  let v2613 : BitVec 32 := Scalar.addi v2611 v2612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2496 : BitVec 32 := 1#32
  let v2614 : BitVec 32 := Scalar.muli v8 c1_i32_2496
  let v2615 : BitVec 32 := Scalar.addi v2613 v2614
  v2615.toNat
def k0_off57 (d0 : Dev nD) : Fin 2 → Nat :=
  let c3072_i32_2509 : BitVec 32 := 3072#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2500 : BitVec 32 := 256#32
  let v2623 : BitVec 32 := Scalar.muli v38 c256_i32_2500
  ![3072, v2623.toNat]
def k0_off58 (d0 : Dev nD) : Fin 2 → Nat :=
  let c3072_i32_2522 : BitVec 32 := 3072#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2512 : BitVec 32 := 256#32
  let v2635 : BitVec 32 := Scalar.muli v38 c256_i32_2512
  let c128_i32_2513 : BitVec 32 := 128#32
  let v2636 : BitVec 32 := Scalar.addi v2635 c128_i32_2513
  ![3072, v2636.toNat]
def k0_dev83 (d0 : Dev nD) : Nat :=
  let c0_i32_2519 : BitVec 32 := 0#32
  let c1_i32_2511 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2634 : BitVec 32 := Scalar.subi c1_i32_2511 v2
  let c8_i32_2518 : BitVec 32 := 8#32
  let v2637 : BitVec 32 := Scalar.muli v2634 c8_i32_2518
  let v2638 : BitVec 32 := Scalar.addi c0_i32_2519 v2637
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2520 : BitVec 32 := 4#32
  let v2639 : BitVec 32 := Scalar.muli v5 c4_i32_2520
  let v2640 : BitVec 32 := Scalar.addi v2638 v2639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2521 : BitVec 32 := 1#32
  let v2641 : BitVec 32 := Scalar.muli v8 c1_i32_2521
  let v2642 : BitVec 32 := Scalar.addi v2640 v2641
  v2642.toNat
def k0_off59 (d0 : Dev nD) : Fin 2 → Nat :=
  let c3584_i32_2534 : BitVec 32 := 3584#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2525 : BitVec 32 := 256#32
  let v2650 : BitVec 32 := Scalar.muli v38 c256_i32_2525
  ![3584, v2650.toNat]
def k0_off60 (d0 : Dev nD) : Fin 2 → Nat :=
  let c3584_i32_2547 : BitVec 32 := 3584#32
  let c2_i32_18 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : BitVec 32 := Scalar.muli c2_i32_18 v2
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let v38 : BitVec 32 := Scalar.addi v36 v37
  let c256_i32_2537 : BitVec 32 := 256#32
  let v2662 : BitVec 32 := Scalar.muli v38 c256_i32_2537
  let c128_i32_2538 : BitVec 32 := 128#32
  let v2663 : BitVec 32 := Scalar.addi v2662 c128_i32_2538
  ![3584, v2663.toNat]
def k0_dev84 (d0 : Dev nD) : Nat :=
  let c0_i32_2544 : BitVec 32 := 0#32
  let c1_i32_2536 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v2661 : BitVec 32 := Scalar.subi c1_i32_2536 v2
  let c8_i32_2543 : BitVec 32 := 8#32
  let v2664 : BitVec 32 := Scalar.muli v2661 c8_i32_2543
  let v2665 : BitVec 32 := Scalar.addi c0_i32_2544 v2664
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2545 : BitVec 32 := 4#32
  let v2666 : BitVec 32 := Scalar.muli v5 c4_i32_2545
  let v2667 : BitVec 32 := Scalar.addi v2665 v2666
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2546 : BitVec 32 := 1#32
  let v2668 : BitVec 32 := Scalar.muli v8 c1_i32_2546
  let v2669 : BitVec 32 := Scalar.addi v2667 v2668
  v2669.toNat
def k0_off61 (d0 : Dev nD) : Fin 2 → Nat :=
  let c0_i32_2559 : BitVec 32 := 0#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2550 : BitVec 32 := 256#32
  let v2677 : BitVec 32 := Scalar.muli v42 c256_i32_2550
  ![0, v2677.toNat]
def k0_off62 (d0 : Dev nD) : Fin 2 → Nat :=
  let c0_i32_2572 : BitVec 32 := 0#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2562 : BitVec 32 := 256#32
  let v2689 : BitVec 32 := Scalar.muli v42 c256_i32_2562
  let c128_i32_2563 : BitVec 32 := 128#32
  let v2690 : BitVec 32 := Scalar.addi v2689 c128_i32_2563
  ![0, v2690.toNat]
def k0_off63 (d0 : Dev nD) : Fin 2 → Nat :=
  let c512_i32_2584 : BitVec 32 := 512#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2575 : BitVec 32 := 256#32
  let v2702 : BitVec 32 := Scalar.muli v42 c256_i32_2575
  ![512, v2702.toNat]
def k0_off64 (d0 : Dev nD) : Fin 2 → Nat :=
  let c512_i32_2597 : BitVec 32 := 512#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2587 : BitVec 32 := 256#32
  let v2714 : BitVec 32 := Scalar.muli v42 c256_i32_2587
  let c128_i32_2588 : BitVec 32 := 128#32
  let v2715 : BitVec 32 := Scalar.addi v2714 c128_i32_2588
  ![512, v2715.toNat]
def k0_off65 (d0 : Dev nD) : Fin 2 → Nat :=
  let c1024_i32_2609 : BitVec 32 := 1024#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2600 : BitVec 32 := 256#32
  let v2727 : BitVec 32 := Scalar.muli v42 c256_i32_2600
  ![1024, v2727.toNat]
def k0_off66 (d0 : Dev nD) : Fin 2 → Nat :=
  let c1024_i32_2622 : BitVec 32 := 1024#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2612 : BitVec 32 := 256#32
  let v2739 : BitVec 32 := Scalar.muli v42 c256_i32_2612
  let c128_i32_2613 : BitVec 32 := 128#32
  let v2740 : BitVec 32 := Scalar.addi v2739 c128_i32_2613
  ![1024, v2740.toNat]
def k0_off67 (d0 : Dev nD) : Fin 2 → Nat :=
  let c1536_i32_2634 : BitVec 32 := 1536#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2625 : BitVec 32 := 256#32
  let v2752 : BitVec 32 := Scalar.muli v42 c256_i32_2625
  ![1536, v2752.toNat]
def k0_off68 (d0 : Dev nD) : Fin 2 → Nat :=
  let c1536_i32_2647 : BitVec 32 := 1536#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2637 : BitVec 32 := 256#32
  let v2764 : BitVec 32 := Scalar.muli v42 c256_i32_2637
  let c128_i32_2638 : BitVec 32 := 128#32
  let v2765 : BitVec 32 := Scalar.addi v2764 c128_i32_2638
  ![1536, v2765.toNat]
def k0_off69 (d0 : Dev nD) : Fin 2 → Nat :=
  let c2048_i32_2659 : BitVec 32 := 2048#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2650 : BitVec 32 := 256#32
  let v2777 : BitVec 32 := Scalar.muli v42 c256_i32_2650
  ![2048, v2777.toNat]
def k0_off70 (d0 : Dev nD) : Fin 2 → Nat :=
  let c2048_i32_2672 : BitVec 32 := 2048#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2662 : BitVec 32 := 256#32
  let v2789 : BitVec 32 := Scalar.muli v42 c256_i32_2662
  let c128_i32_2663 : BitVec 32 := 128#32
  let v2790 : BitVec 32 := Scalar.addi v2789 c128_i32_2663
  ![2048, v2790.toNat]
def k0_off71 (d0 : Dev nD) : Fin 2 → Nat :=
  let c2560_i32_2684 : BitVec 32 := 2560#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2675 : BitVec 32 := 256#32
  let v2802 : BitVec 32 := Scalar.muli v42 c256_i32_2675
  ![2560, v2802.toNat]
def k0_off72 (d0 : Dev nD) : Fin 2 → Nat :=
  let c2560_i32_2697 : BitVec 32 := 2560#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2687 : BitVec 32 := 256#32
  let v2814 : BitVec 32 := Scalar.muli v42 c256_i32_2687
  let c128_i32_2688 : BitVec 32 := 128#32
  let v2815 : BitVec 32 := Scalar.addi v2814 c128_i32_2688
  ![2560, v2815.toNat]
def k0_off73 (d0 : Dev nD) : Fin 2 → Nat :=
  let c3072_i32_2709 : BitVec 32 := 3072#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2700 : BitVec 32 := 256#32
  let v2827 : BitVec 32 := Scalar.muli v42 c256_i32_2700
  ![3072, v2827.toNat]
def k0_off74 (d0 : Dev nD) : Fin 2 → Nat :=
  let c3072_i32_2722 : BitVec 32 := 3072#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2712 : BitVec 32 := 256#32
  let v2839 : BitVec 32 := Scalar.muli v42 c256_i32_2712
  let c128_i32_2713 : BitVec 32 := 128#32
  let v2840 : BitVec 32 := Scalar.addi v2839 c128_i32_2713
  ![3072, v2840.toNat]
def k0_off75 (d0 : Dev nD) : Fin 2 → Nat :=
  let c3584_i32_2734 : BitVec 32 := 3584#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2725 : BitVec 32 := 256#32
  let v2852 : BitVec 32 := Scalar.muli v42 c256_i32_2725
  ![3584, v2852.toNat]
def k0_off76 (d0 : Dev nD) : Fin 2 → Nat :=
  let c3584_i32_2747 : BitVec 32 := 3584#32
  let c2_i32_21 : BitVec 32 := 2#32
  let c1_i32_20 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_20 v2
  let v40 : BitVec 32 := Scalar.muli c2_i32_21 v39
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_22 v5
  let v42 : BitVec 32 := Scalar.addi v40 v41
  let c256_i32_2737 : BitVec 32 := 256#32
  let v2864 : BitVec 32 := Scalar.muli v42 c256_i32_2737
  let c128_i32_2738 : BitVec 32 := 128#32
  let v2865 : BitVec 32 := Scalar.addi v2864 c128_i32_2738
  ![3584, v2865.toNat]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S_ : Shape := ⟨0, ![]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4096x4096, .f32⟩
  | .hbm, ⟨3, _⟩ => ⟨S4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Prog.lean ====
/-
  The kernel's body written once per kind of operation, over the ring's side, the hop and the row block as
  variables, and the proof that the printed body is this program.
-/
module

public import proofs.«01_k».proof.Proof.Gen.KernelIdeal.Points
public import proofs.«01_k».proof.Proof.Gen.KernelIdeal.Skeleton
public import Idealize.ShloMosaic.Lib.Pipeline.Regions

@[expose] public section

set_option synthInstance.maxSize 4096

noncomputable section

namespace Cert.KernelIdeal.Body

open Idealize.ShloMosaic Idealize.ShloMosaic.TcCoe Idealize.SL Idealize.SL.Sem
open Cert.KernelIdeal Cert.KernelIdeal.Gen

variable {F : FTy → Type} [FloatOps F]

/-- A ring: `r` sends to the right neighbour, `l` to the left one. -/
inductive Side | r | l
deriving DecidableEq

/-- An axis of the all-gather: `x` or `y`. -/
inductive Ax | x | y
deriving DecidableEq

/-- The programs of one core. -/
abbrev Pg (F : FTy → Type) [FloatOps F] := Prog (TpuEff nD τ sig (Elt F) Λ₀ .tc)

/-! ### The buffers -/

/-- The core's operand, in the device's main memory. -/
abbrev xM : Memref sig .tc .hbm S1x4096x4096 .f32 := Memref.whole main_arg0
/-- The core's result block. -/
abbrev outM : Memref sig .tc .vmem S4096x1024 .bf16 := Memref.whole cc0_stg0_0
/-- The staged columns of the operand, one half for each ring. -/
abbrev faM : Memref sig .tc .vmem S2x4096x128 .f32 := Memref.whole cc0_scratch4
/-- The three hops' receive buffers of a ring. -/
abbrev commM : Side → Memref sig .tc .vmem S3x4096x128 .bf16
  | .r => Memref.whole cc0_scratch0
  | .l => Memref.whole cc0_scratch1
/-- The rounded first chunk of a ring. -/
abbrev s0M : Side → Memref sig .tc .vmem S4096x128 .bf16
  | .r => Memref.whole cc0_scratch2
  | .l => Memref.whole cc0_scratch3

theorem commM_whole : ∀ sd, (commM sd).IsWhole
  | .r => Memref.isWhole_whole _
  | .l => Memref.isWhole_whole _
theorem s0M_whole : ∀ sd, (s0M sd).IsWhole
  | .r => Memref.isWhole_whole _
  | .l => Memref.isWhole_whole _
theorem outM_whole : outM.IsWhole := Memref.isWhole_whole _
theorem faM_whole : faM.IsWhole := Memref.isWhole_whole _

/-- The side's index into the staging buffer. -/
abbrev Side.ix : Side → Nat
  | .r => 0
  | .l => 1

/-! ### In range, whole words -/

theorem inbS0 (b : Fin 8) : ∀ a, (![512 * b.val, 0] : Fin 2 → Nat) a + S512x128.size a ≤ S4096x128.size a := by
  revert b; decide
theorem inbCm (s : Fin 3) (b : Fin 8) : ∀ a, (![s.val, 512 * b.val, 0] : Fin 3 → Nat) a + S1x512x128.size a ≤ S3x4096x128.size a := by
  revert s b; decide
theorem inbFa (sd : Side) : ∀ a, (![sd.ix, 0, 0] : Fin 3 → Nat) a + S1x4096x128.size a ≤ S2x4096x128.size a := by
  cases sd <;> decide
theorem inbFab (sd : Side) (b : Fin 8) : ∀ a, (![sd.ix, 512 * b.val, 0] : Fin 3 → Nat) a + S1x512x128.size a ≤ S2x4096x128.size a := by
  revert b; cases sd <;> decide
theorem inbSem3 (s : Fin 3) (b : Fin 8) : ∀ a, (![s.val, b.val] : Fin 2 → Nat) a + S1x1.size a ≤ S3x8.size a := by
  revert s b; decide
theorem inbSem2 (s : Fin 2) (b : Fin 8) : ∀ a, (![s.val, b.val] : Fin 2 → Nat) a + S1x1.size a ≤ S2x8.size a := by
  revert s b; decide
theorem inbSem1 (s : Fin 8) : ∀ a, (![s.val] : Fin 1 → Nat) a + S1.size a ≤ S8.size a := by
  revert s; decide

/-- The rectangle of row block `b` in a buffer of 4096 rows and 128 columns. -/
abbrev rS0 (b : Fin 8) : Rect S4096x128 := Rect.unit (s := S4096x128) ![512 * b.val, 0] S512x128.size (inbS0 b)
/-- The rectangle of hop `s`, row block `b`, in a receive buffer. -/
abbrev rCm (s : Fin 3) (b : Fin 8) : Rect S3x4096x128 := Rect.unit (s := S3x4096x128) ![s.val, 512 * b.val, 0] S1x512x128.size (inbCm s b)
/-- The rectangle of a side's half of the staging buffer. -/
abbrev rFa (sd : Side) : Rect S2x4096x128 := Rect.unit (s := S2x4096x128) ![sd.ix, 0, 0] S1x4096x128.size (inbFa sd)
/-- Its row block `b`. -/
abbrev rFab (sd : Side) (b : Fin 8) : Rect S2x4096x128 := Rect.unit (s := S2x4096x128) ![sd.ix, 512 * b.val, 0] S1x512x128.size (inbFab sd b)

theorem wordsS0 (b : Fin 8) : (rS0 b).WholeWords (EltTy.packing .bf16) := by revert b; decide
theorem packedS0 (b : Fin 8) : (rS0 b).PackedRows (EltTy.packing .bf16) := by revert b; decide
theorem wordsCm (s : Fin 3) (b : Fin 8) : (rCm s b).WholeWords (EltTy.packing .bf16) := by revert s b; decide
theorem packedCm (s : Fin 3) (b : Fin 8) : (rCm s b).PackedRows (EltTy.packing .bf16) := by revert s b; decide

/-! ### The columns of the result -/

/-- Which quarter of the result's columns: the core's own, the x neighbour's, the y neighbour's, the diagonal one's. -/
inductive Qr | own | qx | qy | qd
deriving DecidableEq

/-- The first column of a quarter, as the kernel computes it. -/
abbrev colW (d : Dev nD) : Qr → Nat
  | .own => k0_off7 d 1
  | .qx => k0_off29 d 1
  | .qy => k0_off45 d 1
  | .qd => k0_off61 d 1

/-- The 128-column halves of the quarters. -/
inductive Hf | ownLo | ownHi | qxLo | qxHi | qyLo | qyHi | qdLo | qdHi
deriving DecidableEq

/-- The first column of a half, as the kernel computes it where it does. -/
abbrev colH (d : Dev nD) : Hf → Nat
  | .ownLo => k0_off5 d 1
  | .ownHi => k0_off6 d 1
  | .qxLo => k0_off30 d 1
  | .qxHi => k0_off29 d 1 + 128
  | .qyLo => k0_off45 d 1
  | .qyHi => k0_off46 d 1
  | .qdLo => k0_off61 d 1
  | .qdHi => k0_off62 d 1

theorem inbW (d : Dev nD) (q : Qr) (b : Fin 8) : ∀ a, (![512 * b.val, colW d q] : Fin 2 → Nat) a + S512x256.size a ≤ S4096x1024.size a := by
  revert d b; cases q <;> decide +kernel
theorem inbH (d : Dev nD) (h : Hf) (b : Fin 8) : ∀ a, (![512 * b.val, colH d h] : Fin 2 → Nat) a + S512x128.size a ≤ S4096x1024.size a := by
  revert d b; cases h <;> decide +kernel

/-- Row block `b` of a quarter of the result's columns. -/
abbrev rW (d : Dev nD) (q : Qr) (b : Fin 8) : Rect S4096x1024 := Rect.unit (s := S4096x1024) ![512 * b.val, colW d q] S512x256.size (inbW d q b)
/-- Row block `b` of a half. -/
abbrev rH (d : Dev nD) (h : Hf) (b : Fin 8) : Rect S4096x1024 := Rect.unit (s := S4096x1024) ![512 * b.val, colH d h] S512x128.size (inbH d h b)

theorem wordsW (d : Dev nD) (q : Qr) (b : Fin 8) : (rW d q b).WholeWords (EltTy.packing .bf16) := by
  revert d b; cases q <;> decide +kernel
theorem wordsH (d : Dev nD) (h : Hf) (b : Fin 8) : (rH d h b).WholeWords (EltTy.packing .bf16) := by
  revert d b; cases h <;> decide +kernel
theorem packedH (d : Dev nD) (h : Hf) (b : Fin 8) : (rH d h b).PackedRows (EltTy.packing .bf16) := by
  revert d b; cases h <;> decide +kernel

/-! ### The operand's columns -/

/-- The offset of the operand's columns that load `j` of a side brings in. -/
abbrev ldOff (d : Dev nD) : Fin 4 → Side → (Fin 3 → Nat)
  | 0, .r => k0_off1 d 3#32
  | 0, .l => k0_off2 d 1#32
  | 1, .r => k0_off1 d 2#32
  | 1, .l => k0_off2 d 2#32
  | 2, .r => k0_off1 d 1#32
  | 2, .l => k0_off2 d 3#32
  | 3, .r => k0_off3 d
  | 3, .l => k0_off4 d

theorem inbLd (d : Dev nD) (j : Fin 4) (sd : Side) : ∀ a, (ldOff d j sd) a + S1x4096x128.size a ≤ S1x4096x4096.size a := by
  revert d j; cases sd <;> decide +kernel

/-- The columns of the operand that load `j` of a side brings in. -/
abbrev rLd (d : Dev nD) (j : Fin 4) (sd : Side) : Rect S1x4096x4096 := Rect.unit (s := S1x4096x4096) (ldOff d j sd) S1x4096x128.size (inbLd d j sd)

/-! ### The slices the transfers move -/

/-- The operand's columns of a load. -/
abbrev xV (d : Dev nD) (j : Fin 4) (sd : Side) : Memref sig .tc .hbm S4096x128 .f32 :=
  (xM.slice (rLd d j sd) (fun _ => rfl)).squeeze S4096x128 squeezes_S1x4096x128_S4096x128
/-- A side's half of the staging buffer. -/
abbrev faV (sd : Side) : Memref sig .tc .vmem S4096x128 .f32 :=
  (faM.slice (rFa sd) (fun _ => rfl)).squeeze S4096x128 squeezes_S1x4096x128_S4096x128
/-- Row block `b` of the rounded first chunk. -/
abbrev s0V (sd : Side) (b : Fin 8) : Memref sig .tc .vmem S512x128 .bf16 := (s0M sd).slice (rS0 b) (fun _ => rfl)
/-- Row block `b` of hop `s`'s receive buffer. -/
abbrev cmV (sd : Side) (s : Fin 3) (b : Fin 8) : Memref sig .tc .vmem S512x128 .bf16 :=
  ((commM sd).slice (rCm s b) (fun _ => rfl)).squeeze S512x128 squeezes_S1x512x128_S512x128
/-- Row block `b` of a quarter of the result. -/
abbrev wV (d : Dev nD) (q : Qr) (b : Fin 8) : Memref sig .tc .vmem S512x256 .bf16 := outM.slice (rW d q b) (fun _ => rfl)
/-- Row block `b` of a half of a quarter. -/
abbrev hV (d : Dev nD) (h : Hf) (b : Fin 8) : Memref sig .tc .vmem S512x128 .bf16 := outM.slice (rH d h b) (fun _ => rfl)

/-- What hop `s` sends: the rounded chunk at first, then the sum made in the previous hop's buffer. -/
abbrev srcV (sd : Side) : Fin 3 → Fin 8 → Memref sig .tc .vmem S512x128 .bf16
  | 0 => s0V sd
  | 1 => cmV sd 0
  | 2 => cmV sd 1

theorem s0V_words (sd : Side) (b : Fin 8) : (s0V sd b).view.WordExact := (s0M_whole sd).wordExact_slice rfl _ (wordsS0 b)
theorem cmV_words (sd : Side) (s : Fin 3) (b : Fin 8) : (cmV sd s b).view.WordExact :=
  ((commM_whole sd).wordExact_slice rfl _ (wordsCm s b)).reshape _ _
theorem srcV_words (sd : Side) : ∀ (s : Fin 3) (b : Fin 8), (srcV sd s b).view.WordExact
  | 0, b => s0V_words sd b
  | 1, b => cmV_words sd 0 b
  | 2, b => cmV_words sd 1 b
theorem wV_words (d : Dev nD) (q : Qr) (b : Fin 8) : (wV d q b).view.WordExact := outM_whole.wordExact_slice rfl _ (wordsW d q b)
theorem hV_words (d : Dev nD) (h : Hf) (b : Fin 8) : (hV d h b).view.WordExact := outM_whole.wordExact_slice rfl _ (wordsH d h b)

/-! ### The semaphores -/

/-- Entry `(s, b)` of a table of three rows. -/
abbrev sem3 (a : DmaSems sig S3x8) (s : Fin 3) (b : Fin 8) : DmaSem sig :=
  ((a.slice (Rect.unit (s := S3x8) ![s.val, b.val] S1x1.size (inbSem3 s b))).squeeze S_ squeezes_S1x1_S_).sem
/-- Entry `(s, b)` of a table of two rows. -/
abbrev sem2 (a : DmaSems sig S2x8) (s : Fin 2) (b : Fin 8) : DmaSem sig :=
  ((a.slice (Rect.unit (s := S2x8) ![s.val, b.val] S1x1.size (inbSem2 s b))).squeeze S_ squeezes_S1x1_S_).sem
/-- Entry `j` of a table of one row. -/
abbrev sem1 (a : DmaSems sig S8) (j : Fin 8) : DmaSem sig :=
  ((a.slice (Rect.unit (s := S8) ![j.val] S1.size (inbSem1 j))).squeeze S_ squeezes_S1_S_).sem

/-- A ring's send semaphore. -/
abbrev ssS : Side → Fin 3 → Fin 8 → DmaSem sig
  | .r => sem3 cc0_scratch5
  | .l => sem3 cc0_scratch7
/-- A ring's receive semaphore. -/
abbrev rsS : Side → Fin 3 → Fin 8 → DmaSem sig
  | .r => sem3 cc0_scratch6
  | .l => sem3 cc0_scratch8
/-- The all-gather's send semaphore. -/
abbrev agS : Ax → Fin 2 → Fin 8 → DmaSem sig
  | .x => sem2 cc0_scratch9
  | .y => sem2 cc0_scratch11
/-- The all-gather's receive semaphore. -/
abbrev agR : Ax → Fin 2 → Fin 8 → DmaSem sig
  | .x => sem2 cc0_scratch10
  | .y => sem2 cc0_scratch12
/-- The staging semaphore of load `j`. -/
abbrev ldS : Fin 4 → Side → DmaSem sig
  | 0, .r => sem1 cc0_scratch13 0
  | 0, .l => sem1 cc0_scratch13 1
  | 1, .r => sem1 cc0_scratch13 2
  | 1, .l => sem1 cc0_scratch13 3
  | 2, .r => sem1 cc0_scratch13 4
  | 2, .l => sem1 cc0_scratch13 5
  | 3, .r => sem1 cc0_scratch13 6
  | 3, .l => sem1 cc0_scratch13 7
/-- The barrier. -/
abbrev barS : Sem sig := (SemArray.scalar (sig.barrier 0 rfl) : Sems sig S_).sem

/-! ### The neighbours -/

/-- The core a ring sends to. -/
abbrev nx (d : Dev nD) : Side → Dev nD
  | .r => ⟨k0_dev5 d, k0_dev5_lt d⟩
  | .l => ⟨k0_dev6 d, k0_dev6_lt d⟩
/-- The neighbour along an axis. -/
abbrev ax (d : Dev nD) : Ax → Dev nD
  | .x => ⟨k0_dev53 d, k0_dev53_lt d⟩
  | .y => ⟨k0_dev54 d, k0_dev54_lt d⟩
/-- The cores the barrier signals go to, in order. -/
abbrev bt (d : Dev nD) : Fin 4 → Dev nD
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩

/-! ### The operations -/

/-- Start load `j` of a side. -/
def ld (d : Dev nD) (j : Fin 4) (sd : Side) : Pg F PUnit :=
  Prog.lift (.enqueueDma (xV d j sd) (.here (faV sd)) (.dma (ldS j sd)) ((View.wordExact_bits rfl).reshape _ _) ((View.wordExact_bits rfl).reshape _ _) ⟨Or.inl rfl, trivial⟩)
/-- Wait for it. -/
def ldw (d : Dev nD) (j : Fin 4) (sd : Side) : Pg F PUnit :=
  Prog.lift (.waitDma2 (ldS j sd) (xV d j sd) (faV sd) ((View.wordExact_bits rfl).reshape _ _) ((View.wordExact_bits rfl).reshape _ _))
/-- Signal barrier neighbour `i`. -/
def sig1 (d : Dev nD) (i : Fin 4) : Pg F PUnit := semSignalWord (bt d i) barS 1#32
/-- Wait for the four neighbours. -/
def wait4 : Pg F PUnit := semWaitWord barS 4#32

/-- Round a row block of the first chunk. -/
def cvt (sd : Side) (b : Fin 8) : Pg F PUnit := do
  let v : Vec F S1x512x128 .f32 ← Prog.lift (.load faM (rFab sd b).toLoadRect (View.loadsAt_vmem h_S1x512x128))
  let _w : Vec F S512x128 .bf16 ← Prog.lift (.load (s0M sd) (rS0 b).toLoadRect (View.loadsAt_vmem h_S512x128))
  Prog.lift (.store (s0M sd) (rS0 b) (k0_pay1 v) Finset.univ (View.stores_vmem h_S512x128 ((s0M_whole sd).storeExact_slice rfl _ (packedS0 b)) (fun _ => rfl)) (.inl rfl))

theorem cmV_hbm (sd : Side) (s : Fin 3) (b : Fin 8) : (cmV sd s b).view.ref.isScScratch = false := by cases sd <;> rfl
theorem wV_hbm (d : Dev nD) (q : Qr) (b : Fin 8) : (wV d q b).view.ref.isScScratch = false := rfl
theorem hV_hbm (d : Dev nD) (h : Hf) (b : Fin 8) : (hV d h b).view.ref.isScScratch = false := rfl

/-- Send a row block of hop `s`. -/
def snd (d : Dev nD) (sd : Side) (s : Fin 3) (b : Fin 8) : Pg F PUnit :=
  Prog.lift (.enqueueDma (srcV sd s b) (.remote (Dev.tc (nx d sd)) (cmV sd s b) (.dma (ssS sd s b)) (cmV_hbm sd s b)) (.dma (rsS sd s b)) (srcV_words sd s b) (cmV_words sd s b) ⟨⟨rfl, Or.inl rfl⟩, trivial⟩)
/-- Wait for a row block of hop `s` to arrive. -/
def rcv (sd : Side) (s : Fin 3) (b : Fin 8) : Pg F PUnit :=
  Prog.lift (.waitDma2 (rsS sd s b) (s0V sd b) (cmV sd s b) (s0V_words sd b) (cmV_words sd s b))
/-- Wait for a row block of hop `s` to have left. -/
def sndw (sd : Side) (s : Fin 3) (b : Fin 8) : Pg F PUnit :=
  Prog.lift (.waitDma2 (ssS sd s b) (cmV sd s b) (srcV sd s b) (cmV_words sd s b) (srcV_words sd s b))
/-- Add the core's own block to what arrived. -/
def acc (sd : Side) (s : Fin 3) (b : Fin 8) : Pg F PUnit := do
  let v : Vec F S1x512x128 .f32 ← Prog.lift (.load faM (rFab sd b).toLoadRect (View.loadsAt_vmem h_S1x512x128))
  let w : Vec F S1x512x128 .bf16 ← Prog.lift (.load (commM sd) (rCm s b).toLoadRect (View.loadsAt_vmem h_S1x512x128))
  let _w : Vec F S1x512x128 .bf16 ← Prog.lift (.load (commM sd) (rCm s b).toLoadRect (View.loadsAt_vmem h_S1x512x128))
  Prog.lift (.store (commM sd) (rCm s b) (k0_pay19 v w) Finset.univ (View.stores_vmem h_S1x512x128 ((commM_whole sd).storeExact_slice rfl _ (packedCm s b)) (fun _ => rfl)) (.inl rfl))

/-- The half of the result's own quarter that a ring ends in. -/
abbrev Side.hf : Side → Hf
  | .r => .ownLo
  | .l => .ownHi

/-- Add the core's own block to what the last hop brought, into the result. -/
def fin (d : Dev nD) (sd : Side) (b : Fin 8) : Pg F PUnit := do
  let v : Vec F S1x512x128 .f32 ← Prog.lift (.load faM (rFab sd b).toLoadRect (View.loadsAt_vmem h_S1x512x128))
  let w : Vec F S1x512x128 .bf16 ← Prog.lift (.load (commM sd) (rCm 2 b).toLoadRect (View.loadsAt_vmem h_S1x512x128))
  let _w : Vec F S512x128 .bf16 ← Prog.lift (.load outM (rH d sd.hf b).toLoadRect (View.loadsAt_vmem h_S512x128))
  Prog.lift (.store outM (rH d sd.hf b) (k0_pay61 v w) Finset.univ (View.stores_vmem h_S512x128 (outM_whole.storeExact_slice rfl _ (packedH d sd.hf b)) (fun _ => rfl)) (.inl rfl))

/-- The quarter of the result whose arrival an axis's first phase is. -/
abbrev Ax.q : Ax → Qr
  | .x => .qx
  | .y => .qy
/-- The half an axis's second phase sends. -/
abbrev Ax.h1 : Ax → Hf
  | .x => .qyHi
  | .y => .qxLo
/-- The half an axis's second phase brings. -/
abbrev Ax.d1 : Ax → Hf
  | .x => .qdHi
  | .y => .qdLo

/-- First phase of the all-gather: send the core's own quarter. -/
def ag0 (d : Dev nD) (a : Ax) (b : Fin 8) : Pg F PUnit :=
  Prog.lift (.enqueueDma (wV d .own b) (.remote (Dev.tc (ax d a)) (wV d .own b) (.dma (agS a 0 b)) (wV_hbm d .own b)) (.dma (agR a 0 b)) (wV_words d .own b) (wV_words d .own b) ⟨⟨rfl, Or.inl rfl⟩, trivial⟩)
/-- Wait for the neighbour's quarter. -/
def ag0r (d : Dev nD) (a : Ax) (b : Fin 8) : Pg F PUnit :=
  Prog.lift (.waitDma2 (agR a 0 b) (wV d a.q b) (wV d a.q b) (wV_words d _ b) (wV_words d _ b))
/-- Wait for the own quarter to have left. -/
def ag0s (d : Dev nD) (a : Ax) (b : Fin 8) : Pg F PUnit :=
  Prog.lift (.waitDma2 (agS a 0 b) (wV d .own b) (wV d .own b) (wV_words d _ b) (wV_words d _ b))
/-- Second phase: send on half of what the first phase of the other axis brought. -/
def ag1 (d : Dev nD) (a : Ax) (b : Fin 8) : Pg F PUnit :=
  Prog.lift (.enqueueDma (hV d a.h1 b) (.remote (Dev.tc (ax d a)) (hV d a.h1 b) (.dma (agS a 1 b)) (hV_hbm d _ b)) (.dma (agR a 1 b)) (hV_words d _ b) (hV_words d _ b) ⟨⟨rfl, Or.inl rfl⟩, trivial⟩)
/-- Wait for half of the diagonal quarter. -/
def ag1r (d : Dev nD) (a : Ax) (b : Fin 8) : Pg F PUnit :=
  Prog.lift (.waitDma2 (agR a 1 b) (hV d a.d1 b) (hV d a.d1 b) (hV_words d _ b) (hV_words d _ b))
/-- Wait for the half sent on to have left. -/
def ag1s (d : Dev nD) (a : Ax) (b : Fin 8) : Pg F PUnit :=
  Prog.lift (.waitDma2 (agS a 1 b) (hV d a.h1 b) (hV d a.h1 b) (hV_words d _ b) (hV_words d _ b))

/-- The row blocks in order. -/
def forB (f : Fin 8 → Pg F PUnit) : Pg F PUnit := do
  f 0; f 1; f 2; f 3; f 4; f 5; f 6; f 7

/-- The first chunk rounded and sent, a row block at a time. -/
def st0 (d : Dev nD) (b : Fin 8) : Pg F PUnit := do
  cvt .r b; snd d .r 0 b; cvt .l b; snd d .l 0 b
/-- Hop `s`, `s < 2`: what arrived plus the own block, sent on. -/
def st1 (d : Dev nD) (s s' : Fin 3) (b : Fin 8) : Pg F PUnit := do
  rcv .r s b; rcv .l s b; acc .r s b; snd d .r s' b; acc .l s b; snd d .l s' b
/-- The last hop, into the result, and the first phase of the all-gather. -/
def st2 (d : Dev nD) (b : Fin 8) : Pg F PUnit := do
  rcv .r 2 b; rcv .l 2 b; fin d .r b; fin d .l b; ag0 d .x b; ag0 d .y b
/-- Both halves' load `j`, waited for. -/
def ld2 (d : Dev nD) (j : Fin 4) : Pg F PUnit := do
  ld d j .r; ld d j .l; ldw d j .r; ldw d j .l

/-- The ring reduce-scatter. -/
def ring (d : Dev nD) : Pg F PUnit := do
  forB (st0 d)
  ld2 d 1; forB (st1 d 0 1)
  ld2 d 2; forB (st1 d 1 2)
  ld2 d 3; forB (st2 d)
/-- The second phase of the all-gather. -/
def gather (d : Dev nD) : Pg F PUnit := do
  forB (fun b => do ag0r d .x b; ag1 d .y b)
  forB (fun b => do ag0r d .y b; ag1 d .x b)
  forB (fun b => do ag1r d .y b; ag1r d .x b)
/-- Every send waited for. -/
def drain (d : Dev nD) : Pg F PUnit := do
  forB (fun b => do sndw .r 0 b; sndw .l 0 b)
  forB (fun b => do sndw .r 1 b; sndw .l 1 b)
  forB (fun b => do sndw .r 2 b; sndw .l 2 b)
  forB (fun b => do ag0s d .x b; ag0s d .y b)
  forB (fun b => ag1s d .y b)
  forB (fun b => ag1s d .x b)

/-- The opening: the first loads and the barrier. -/
def opening (d : Dev nD) : Pg F PUnit := do
  ld d 0 .r; ld d 0 .l
  sig1 d 0; sig1 d 1; sig1 d 2; sig1 d 3; wait4
  ldw d 0 .r; ldw d 0 .l

/-- The body on core `d`. -/
def main (d : Dev nD) : Pg F PUnit := do
  opening d; ring d; gather d; drain d

/-- The body. -/
def body : Pg F PUnit := do
  let d : Dev nD ← Prog.lift .deviceId
  main d

set_option maxRecDepth 1000000 in
/-- The printed body is `body`, by definitional unfolding. -/
theorem bodyAt0_eq (t : Fin cfg0.N) : bodyAt0 (F := F) t = body := by
  chain_rfl

end Cert.KernelIdeal.Body

end
-- ==== Proof.Ideal.Sched.lean ====
/-
  The protocol of the kernel's semaphores: the transfers, the cells, what each block of each buffer holds when, the
  one-round schedule of what each cell's duty hands over, and what each core owes with the levels of the cells.
-/
module

public import proofs.«01_k».proof.Proof.Ideal.Prog
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The transfers and the cells -/

instance : Fintype Side := ⟨{.r, .l}, fun s => by cases s <;> decide⟩
instance : Fintype Ax := ⟨{.x, .y}, fun s => by cases s <;> decide⟩

/-- The transfers a core starts: a row block of a ring's hop, or of the all-gather's first or second phase along an axis. -/
inductive Tr
  | ring (s : Fin 3) (b : Fin 8) (sd : Side)
  | ag0 (b : Fin 8) (a : Ax)
  | ag1 (b : Fin 8) (a : Ax)
deriving DecidableEq

/-- The transfers, as a sum of products. -/
def Tr.equiv : (Fin 3 × Fin 8 × Side) ⊕ ((Fin 8 × Ax) ⊕ (Fin 8 × Ax)) ≃ Tr where
  toFun | .inl (s, b, sd) => .ring s b sd | .inr (.inl (b, a)) => .ag0 b a | .inr (.inr (b, a)) => .ag1 b a
  invFun | .ring s b sd => .inl (s, b, sd) | .ag0 b a => .inr (.inl (b, a)) | .ag1 b a => .inr (.inr (b, a))
  left_inv t := by rcases t with ⟨s, b, sd⟩ | ⟨b, a⟩ | ⟨b, a⟩ <;> rfl
  right_inv t := by cases t <;> rfl

instance : Fintype Tr := Fintype.ofEquiv _ Tr.equiv

/-- A core's own cells: the loads' and each transfer's departure and arrival. -/
abbrev Oc : Type := (Fin 4 × Side) ⊕ (Tr ⊕ Tr)
/-- All of a core's cells: the barrier (`none`) and its own ones. -/
abbrev Cl : Type := Option Oc

/-- The barrier's cell. -/
@[match_pattern] abbrev cBar : Cl := none
/-- The cell of load `j` of a side. -/
@[match_pattern] abbrev cLd (j : Fin 4) (sd : Side) : Cl := some (.inl (j, sd))
/-- The cell of a transfer's departure. -/
@[match_pattern] abbrev cS (t : Tr) : Cl := some (.inr (.inl t))
/-- The cell of a transfer's arrival. -/
@[match_pattern] abbrev cR (t : Tr) : Cl := some (.inr (.inr t))

/-- The semaphore of a transfer's departure. -/
abbrev sS : Tr → DmaSem sig
  | .ring s b sd => ssS sd s b
  | .ag0 b a => agS a 0 b
  | .ag1 b a => agS a 1 b
/-- The semaphore of a transfer's arrival. -/
abbrev sR : Tr → DmaSem sig
  | .ring s b sd => rsS sd s b
  | .ag0 b a => agR a 0 b
  | .ag1 b a => agR a 1 b

/-- The semaphore of an own cell. -/
abbrev osem : Oc → SemLoc sig
  | .inl (j, sd) => .dma (ldS j sd)
  | .inr (.inl t) => .dma (sS t)
  | .inr (.inr t) => .dma (sR t)
/-- The semaphore of a cell. -/
abbrev csem : Cl → SemLoc sig
  | none => .reg barS
  | some o => osem o

/-- An axis's index. -/
abbrev Ax.ix : Ax → Nat
  | .x => 0
  | .y => 1

/-- The number of the semaphore of an own cell. -/
def osemNo : Oc → Nat
  | .inl (j, sd) => 161 + 2 * j.val + sd.ix
  | .inr (.inl (.ring s b sd)) => 1 + 48 * sd.ix + 8 * s.val + b.val
  | .inr (.inr (.ring s b sd)) => 25 + 48 * sd.ix + 8 * s.val + b.val
  | .inr (.inl (.ag0 b a)) => 97 + 32 * a.ix + b.val
  | .inr (.inr (.ag0 b a)) => 113 + 32 * a.ix + b.val
  | .inr (.inl (.ag1 b a)) => 105 + 32 * a.ix + b.val
  | .inr (.inr (.ag1 b a)) => 121 + 32 * a.ix + b.val

/-- The number of a DMA semaphore; of a regular one, nothing. -/
def semNo : SemLoc sig → Nat
  | .dma i => i.val
  | .reg _ => 0

theorem semNo_osem : ∀ o : Oc, semNo (osem o) = osemNo o := by decide +kernel

theorem osemNo_injective : Function.Injective osemNo := by
  rintro (⟨j, sd⟩ | (⟨s, b, sd⟩ | ⟨b, a⟩ | ⟨b, a⟩) | (⟨s, b, sd⟩ | ⟨b, a⟩ | ⟨b, a⟩))
    (⟨j', sd'⟩ | (⟨s', b', sd'⟩ | ⟨b', a'⟩ | ⟨b', a'⟩) | (⟨s', b', sd'⟩ | ⟨b', a'⟩ | ⟨b', a'⟩)) h <;>
  first
  | cases sd <;> cases sd' <;> simp only [osemNo, Side.ix, Ax.ix] at h <;>
      first
      | (exfalso; omega)
      | (obtain rfl : j = j' := Fin.ext (by omega)); rfl
      | (obtain rfl : s = s' := Fin.ext (by omega)); (obtain rfl : b = b' := Fin.ext (by omega)); rfl
  | cases a <;> cases a' <;> simp only [osemNo, Side.ix, Ax.ix] at h <;>
      first
      | (exfalso; omega)
      | (obtain rfl : b = b' := Fin.ext (by omega)); rfl
  | cases sd <;> cases a' <;> simp only [osemNo, Side.ix, Ax.ix] at h <;> (exfalso; omega)
  | cases a <;> cases sd' <;> simp only [osemNo, Side.ix, Ax.ix] at h <;> (exfalso; omega)

theorem osem_injective : Function.Injective osem := fun o o' h =>
  osemNo_injective (by rw [← semNo_osem, ← semNo_osem, h])

theorem osem_ne_bar (o : Oc) : osem o ≠ .reg barS := by
  rcases o with ⟨j, sd⟩ | t | t <;> exact fun h => by cases h

theorem csem_injective : Function.Injective csem := by
  rintro (_ | o) (_ | o') h
  · rfl
  · exact absurd h.symm (osem_ne_bar o')
  · exact absurd h (osem_ne_bar o)
  · exact congrArg some (osem_injective h)

/-- The cell a semaphore is, if any. -/
def dec (s : SemLoc sig) : Option Cl :=
  open Classical in if h : ∃ cl, csem cl = s then some h.choose else none

theorem dec_csem (cl : Cl) : dec (csem cl) = some cl := by
  have h : ∃ cl', csem cl' = csem cl := ⟨cl, rfl⟩
  unfold dec
  rw [dif_pos h]
  exact congrArg some (csem_injective h.choose_spec)

/-- Cell `cl` of core `d`. -/
abbrev cell (d : Dev nD) (cl : Cl) : GSem nD τ sig := ((d : Thread nD τ), csem cl)

theorem cell_injective : Function.Injective (fun p : Dev nD × Cl => cell p.1 p.2) := by
  rintro ⟨c, k⟩ ⟨c', k'⟩ h
  have h1 : c = c' := by have := congrArg (fun g : GSem nD τ sig => g.1.1) h; exact this
  have h2 : csem k = csem k' := congrArg Prod.snd h
  rw [h1, csem_injective h2]

/-! ## Neighbours -/

/-- The other side. -/
abbrev Side.op : Side → Side
  | .r => .l
  | .l => .r

/-- The core a ring receives from. -/
abbrev pv (d : Dev nD) (sd : Side) : Dev nD := nx d sd.op

theorem nx_pv : ∀ (sd : Side) (d : Dev nD), nx (pv d sd) sd = d := by decide +kernel
theorem pv_nx : ∀ (sd : Side) (d : Dev nD), pv (nx d sd) sd = d := by decide +kernel
theorem ax_ax : ∀ (a : Ax) (d : Dev nD), ax (ax d a) a = d := by decide +kernel

/-- The core a transfer goes to. -/
abbrev tgt (d : Dev nD) : Tr → Dev nD
  | .ring _ _ sd => nx d sd
  | .ag0 _ a => ax d a
  | .ag1 _ a => ax d a
/-- The core it comes from. -/
abbrev org (d : Dev nD) : Tr → Dev nD
  | .ring _ _ sd => pv d sd
  | .ag0 _ a => ax d a
  | .ag1 _ a => ax d a

theorem tgt_org (d : Dev nD) (t : Tr) : tgt (org d t) t = d := by
  cases t <;> first | exact nx_pv _ _ | exact ax_ax _ _
theorem org_tgt (d : Dev nD) (t : Tr) : org (tgt d t) t = d := by
  cases t <;> first | exact pv_nx _ _ | exact ax_ax _ _

/-- The core whose barrier signal `i` comes to `d`. -/
abbrev bf (d : Dev nD) : Fin 4 → Dev nD
  | 0 => nx d .r
  | 1 => nx d .l
  | 2 => ax d .x
  | 3 => ax d .y

theorem bt_bf : ∀ (i : Fin 4) (d : Dev nD), bt (bf d i) i = d := by decide +kernel
theorem bf_bt : ∀ (i : Fin 4) (d : Dev nD), bf (bt d i) i = d := by decide +kernel

/-- The core with the same place in the rings whose own quarter is quarter `k` of the columns. -/
abbrev dv (d : Dev nD) (k : Nat) (hk : k < 4) : Dev nD := ⟨4 * k + d.val % 4, by have := Nat.mod_lt d.val (show 4 > 0 by decide); show _ < 16; omega⟩

/-! ## Contents -/

variable (m : (ℓ : Loc nD τ sig) → Buf (Elt F) ℓ)

/-- The operand on core `d`. -/
abbrev xa (d : Dev nD) : Vec F S1x4096x4096 .f32 := m ((d : Thread nD τ).loc main_arg0)

/-- The columns load `j` of a side brings in. -/
def FA (d : Dev nD) (j : Fin 4) (sd : Side) : Vec F S1x4096x128 .f32 := fun i => xa m d ((rLd d j sd).emb i)

theorem inbBk (b : Fin 8) : ∀ a, (![0, 512 * b.val, 0] : Fin 3 → Nat) a + S1x512x128.size a ≤ S1x4096x128.size a := by
  revert b; decide
/-- Row block `b` of the staged columns. -/
abbrev rBk (b : Fin 8) : Rect S1x4096x128 := Rect.unit (s := S1x4096x128) ![0, 512 * b.val, 0] S1x512x128.size (inbBk b)

/-- Row block `b` of the columns load `j` of a side brings in. -/
def fab (d : Dev nD) (j : Fin 4) (sd : Side) (b : Fin 8) : Vec F S1x512x128 .f32 := fun i => FA m d j sd ((rBk b).emb i)

/-- A row block as a block of one plane. -/
abbrev up (Y : Vec F S512x128 .bf16) : Vec F S1x512x128 .bf16 := shapeCast S1x512x128 Y shapeCasts_S512x128_S1x512x128
/-- A block of one plane as a row block. -/
abbrev dn (Y : Vec F S1x512x128 .bf16) : Vec F S512x128 .bf16 := shapeCast S512x128 Y shapeCasts_S1x512x128_S512x128

/-- What a hop's buffer holds once the core's own block is added to what arrived, `Y`. -/
abbrev ac (d : Dev nD) (j : Fin 4) (sd : Side) (b : Fin 8) (Y : Vec F S1x512x128 .bf16) : Vec F S1x512x128 .bf16 := k0_pay19 (fab m d j sd b) Y

/-- What hop 0 sends: the rounded first chunk. -/
def C0 (d : Dev nD) (sd : Side) (b : Fin 8) : Vec F S512x128 .bf16 := k0_pay1 (fab m d 0 sd b)
/-- What hop 1 sends. -/
def C1 (d : Dev nD) (sd : Side) (b : Fin 8) : Vec F S512x128 .bf16 := dn (ac m d 1 sd b (up (C0 m (pv d sd) sd b)))
/-- What hop 2 sends. -/
def C2 (d : Dev nD) (sd : Side) (b : Fin 8) : Vec F S512x128 .bf16 := dn (ac m d 2 sd b (up (C1 m (pv d sd) sd b)))
/-- What hop `s` sends. -/
abbrev CC : Fin 3 → (d : Dev nD) → (sd : Side) → (b : Fin 8) → Vec F S512x128 .bf16
  | 0 => C0 m
  | 1 => C1 m
  | 2 => C2 m

/-- What hop `s` brings. -/
abbrev RR (d : Dev nD) (s : Fin 3) (b : Fin 8) (sd : Side) : Vec F S1x512x128 .bf16 := up (CC m s (pv d sd) sd b)

/-- A ring's half of the core's own quarter of the result, row block `b`. -/
def OB (d : Dev nD) (sd : Side) (b : Fin 8) : Vec F S512x128 .bf16 := k0_pay61 (fab m d 3 sd b) (RR m d 2 b sd)

/-- The side whose ring makes a column of the result. -/
abbrev sideOf (c : Nat) : Side := if c / 128 % 2 = 0 then .r else .l

/-- The result on core `d`. -/
def OUT (d : Dev nD) : Vec F S4096x1024 .bf16 := fun i =>
  OB m (dv d ((i 1).val / 256) (by have := (i 1).isLt; change (i 1).val < 1024 at this; omega)) (sideOf (i 1).val)
    ⟨(i 0).val / 512, by have := (i 0).isLt; change (i 0).val < 4096 at this; omega⟩
    (fun a => ⟨![(i 0).val % 512, (i 1).val % 128] a, by
      fin_cases a
      · exact Nat.mod_lt _ (by decide)
      · exact Nat.mod_lt _ (by decide)⟩)

theorem ax_mod : ∀ (a : Ax) (d : Dev nD), (ax d a).val % 4 = d.val % 4 := by decide +kernel

theorem OUT_ax (d : Dev nD) (a : Ax) : OUT m (ax d a) = OUT m d := by
  funext i
  unfold OUT
  congr 1
  exact Fin.ext (by show 4 * _ + (ax d a).val % 4 = 4 * _ + d.val % 4; rw [ax_mod])

/-! ## What the duties hand over -/

/-- The resource algebra of the cells' rounds: four duty names. -/
abbrev UB : Type := URounds (GSem nD τ sig) (Fin 4)
/-- With the pipeline's. -/
abbrev UU : Type := UR sig nD τ × UB

local notation "𝕄" => MT nD τ sig Unit (Elt F) ℕ UU ℕ

/-- Where the pipeline's element embeds. -/
abbrev EP : Emb (UR sig nD τ) (MT nD τ sig Unit (Elt F) ℕ UU ℕ) := embL
/-- Where the rounds' element embeds. -/
abbrev ER : Emb UB (MT nD τ sig Unit (Elt F) ℕ UU ℕ) := embR

/-- Core `d` owns a memref at `X`. -/
abbrev own (d : Dev nD) {sp : Space} {sh : Shape} {e : EltTy} (M : Memref sig .tc sp sh e) (q : PosShare TreeShare) (X : sh.Idx → Elt F e) : sProp 𝕄 :=
  owns (d : Thread nD τ) M q X
/-- Core `d` owns a memref, whatever it holds. -/
def ownE (d : Dev nD) {sp : Space} {sh : Shape} {e : EltTy} (M : Memref sig .tc sp sh e) : sProp 𝕄 :=
  iprop(∃ X : sh.Idx → Elt F e, own d M fullShare X)

instance ownE_storable (d : Dev nD) {sp : Space} {sh : Shape} {e : EltTy} (M : Memref sig .tc sp sh e) :
    BI.Storable (upEmb : UEmb _ 𝕄) (ownE (F := F) d M) := by unfold ownE; infer_instance

/-- Hop `s`'s block of a receive buffer. -/
abbrev cmB (sd : Side) (s : Fin 3) (b : Fin 8) : Memref sig .tc .vmem S1x512x128 .bf16 := (commM sd).slice (rCm s b) (fun _ => rfl)
/-- A side's half of the staging buffer. -/
abbrev faB (sd : Side) : Memref sig .tc .vmem S1x4096x128 .f32 := faM.slice (rFa sd) (fun _ => rfl)

/-- Row block `b` of a quarter of core `d`'s result, holding the result. -/
abbrev outW (d : Dev nD) (q : Qr) (b : Fin 8) (p : PosShare TreeShare) : sProp 𝕄 := own d (wV d q b) p (fun i => OUT m d ((rW d q b).emb i))
/-- Row block `b` of a half, holding the result. -/
abbrev outH (d : Dev nD) (h : Hf) (b : Fin 8) (p : PosShare TreeShare) : sProp 𝕄 := own d (hV d h b) p (fun i => OUT m d ((rH d h b).emb i))

/-- The share of its own quarter a core lends each axis. -/
abbrev Ax.sh : Ax → PosShare TreeShare
  | .x => fullShare.left
  | .y => fullShare.right

/-- What the barrier brings from a ring neighbour `e`: its receive buffer. -/
def barC (e : Dev nD) (sd : Side) : sProp 𝕄 := bigSep Finset.univ fun p : Fin 3 × Fin 8 => ownE (F := F) e (cmB sd p.1 p.2)
/-- What the barrier brings from an axis neighbour `e`: the parts of its result that axis writes. -/
def barO (e : Dev nD) (a : Ax) : sProp 𝕄 :=
  iprop((bigSep Finset.univ fun b : Fin 8 => ownE (F := F) e (wV e a.q b)) ∗ bigSep Finset.univ fun b : Fin 8 => ownE (F := F) e (hV e a.d1 b))

instance barC_storable (e : Dev nD) (sd : Side) : BI.Storable (upEmb : UEmb _ 𝕄) (barC (F := F) e sd) := by unfold barC; infer_instance
instance barO_storable (e : Dev nD) (a : Ax) : BI.Storable (upEmb : UEmb _ 𝕄) (barO (F := F) e a) := by unfold barO; infer_instance

/-- What barrier signal `i` brings core `d`. -/
def barPay (d : Dev nD) : Fin 4 → sProp 𝕄
  | 0 => barC (nx d .r) .r
  | 1 => barC (nx d .l) .l
  | 2 => barO (ax d .x) .x
  | 3 => barO (ax d .y) .y

/-- What a transfer's departure hands back. -/
def sPay (d : Dev nD) : Tr → sProp 𝕄
  | .ring s b sd => ownE d (srcV sd s b)
  | .ag0 b a => outW m d .own b a.sh
  | .ag1 b a => outH m d a.h1 b fullShare
/-- What a transfer's arrival brings. -/
def rPay (d : Dev nD) : Tr → sProp 𝕄
  | .ring s b sd => own d (cmB sd s b) fullShare (RR m d s b sd)
  | .ag0 b a => outW m d a.q b fullShare
  | .ag1 b a => outH m d a.d1 b fullShare

/-- What duty `i` of a cell hands over. -/
def pay (d : Dev nD) : Cl → Fin 4 → sProp 𝕄
  | cBar, i => barPay d i
  | cLd j sd, _ => own d (faB sd) fullShare (FA m d j sd)
  | cS t, _ => sPay m d t
  | cR t, _ => rPay m d t

instance barPay_storable (d : Dev nD) (i : Fin 4) : BI.Storable (upEmb : UEmb _ 𝕄) (barPay (F := F) d i) := by
  fin_cases i <;> (unfold barPay; infer_instance)
instance sPay_storable (d : Dev nD) (t : Tr) : BI.Storable (upEmb : UEmb _ 𝕄) (sPay m d t) := by
  cases t <;> (unfold sPay; infer_instance)
instance rPay_storable (d : Dev nD) (t : Tr) : BI.Storable (upEmb : UEmb _ 𝕄) (rPay m d t) := by
  cases t <;> (unfold rPay; infer_instance)
instance pay_storable (d : Dev nD) (cl : Cl) (i : Fin 4) : BI.Storable (upEmb : UEmb _ 𝕄) (pay m d cl i) := by
  rcases cl with _ | ⟨j, sd⟩ | t | t <;> (unfold pay; infer_instance)

/-- The credit of a block of 512 rows and 128 columns. -/
abbrev NC : ℕ := (s0V .r 0).view.dmaCredit
/-- The credit of a block of 512 rows and 256 columns. -/
abbrev NW : ℕ := (wV 0 .own 0).view.dmaCredit
/-- The credit of a load. -/
abbrev NF : ℕ := (faV .r).view.dmaCredit

/-- The credit of a transfer. -/
abbrev trN : Tr → ℕ
  | .ring _ _ _ => NC
  | .ag0 _ _ => NW
  | .ag1 _ _ => NC

/-- What a duty of a cell amounts to. -/
abbrev amt : Cl → ℕ
  | cBar => 1
  | cLd _ _ => NF
  | cS t => trN t
  | cR t => trN t

theorem trN_pos (t : Tr) : 0 < trN t := by cases t <;> exact View.dmaCredit_pos _ (by decide)
theorem amt_pos (cl : Cl) : 0 < amt cl := by
  rcases cl with _ | ⟨j, sd⟩ | t | t
  · exact Nat.one_pos
  · exact View.dmaCredit_pos _ (by decide)
  · exact trN_pos t
  · exact trN_pos t

/-- The duties of a cell: four signals for the barrier, one for the others. -/
abbrev dut : Cl → Finset (Fin 4)
  | cBar => Finset.univ
  | _ => {0}

/-- The schedule: one round. -/
def Rd : Rounds.Schedule (GSem nD τ sig) (Fin 4) 𝕄 where
  duties g r := if r = 0 ∧ g.1.2 = .tc then (match dec g.2 with | some cl => dut cl | none => ∅) else ∅
  unitless _ := False
  amount g _ _ := match dec g.2 with | some cl => amt cl | none => 1
  payload g _ i := match dec g.2 with | some cl => pay m g.1.1 cl i | none => iprop(emp)
  amount_pos g _ _ _ := by
    rcases dec g.2 with _ | cl
    · exact Nat.one_pos
    · exact amt_pos cl

instance Rd_payload_storable (g : GSem nD τ sig) (r : ℕ) (i : Fin 4) :
    BI.Storable (upEmb : UEmb _ 𝕄) ((Rd (F := F) m).payload g r i) := by
  show BI.Storable upEmb (match dec g.2 with | some cl => pay m g.1.1 cl i | none => iprop(emp))
  rcases dec g.2 with _ | cl <;> (dsimp only; infer_instance)

theorem duties_eq (d : Dev nD) (cl : Cl) : (Rd (F := F) m).duties (cell d cl) 0 = dut cl := by
  dsimp only [Rd]; rw [if_pos ⟨rfl, rfl⟩, dec_csem]
theorem duties_later (g : GSem nD τ sig) : ∀ r, 1 ≤ r → (Rd (F := F) m).duties g r = ∅ := fun r hr => by
  dsimp only [Rd]; rw [if_neg fun h => by omega]
theorem amount_eq (d : Dev nD) (cl : Cl) (i : Fin 4) : (Rd (F := F) m).amount (cell d cl) 0 i = amt cl := by
  dsimp only [Rd]; rw [dec_csem]
theorem payload_eq (d : Dev nD) (cl : Cl) (i : Fin 4) : (Rd (F := F) m).payload (cell d cl) 0 i = pay m d cl i := by
  dsimp only [Rd]; rw [dec_csem]

theorem expect_own (d : Dev nD) (o : Oc) : (Rd (F := F) m).expect (cell d (some o)) 0 = amt (some o) := by
  unfold Schedule.expect Schedule.amountOf; rw [duties_eq, Finset.sum_singleton, amount_eq]
theorem expect_bar (d : Dev nD) : (Rd (F := F) m).expect (cell d cBar) 0 = 4 := by
  unfold Schedule.expect Schedule.amountOf
  rw [duties_eq, Finset.sum_congr rfl fun i _ => amount_eq m d cBar i, Finset.sum_const, Finset.card_univ, Fintype.card_fin, smul_eq_mul]; rfl

theorem rest_own (d : Dev nD) (o : Oc) :
    bigSep ((Rd (F := F) m).duties (cell d (some o)) 0 \ ∅) (fun i => (Rd (F := F) m).payload (cell d (some o)) 0 i) = pay m d (some o) 0 := by
  rw [Finset.sdiff_empty, duties_eq, bigSep_singleton, payload_eq]

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rest_bar (d : Dev nD) :
    bigSep ((Rd (F := F) m).duties (cell d cBar) 0 \ ∅) (fun i => (Rd (F := F) m).payload (cell d cBar) 0 i)
      = iprop(barPay d 0 ∗ barPay d 1 ∗ barPay d 2 ∗ barPay d 3) := by
  rw [Finset.sdiff_empty, duties_eq, bigSep_congr fun i _ => payload_eq m d cBar i, bigSep_fin4]; rfl

/-! ## What the cores owe; the levels -/

/-- The order in which a core starts its transfers. -/
abbrev rank : Tr → ℕ
  | .ring s b sd => 16 * s.val + 2 * b.val + sd.ix
  | .ag0 b a => 48 + 2 * b.val + a.ix
  | .ag1 b a => 72 - 8 * a.ix + b.val

theorem rank_injective : Function.Injective rank := by
  rintro (⟨s, b, sd⟩ | ⟨b, a⟩ | ⟨b, a⟩) (⟨s', b', sd'⟩ | ⟨b', a'⟩ | ⟨b', a'⟩) h <;>
  first
  | cases sd <;> cases sd' <;> simp only [rank, Side.ix, Ax.ix] at h <;>
      first
      | (exfalso; omega)
      | (obtain rfl : s = s' := Fin.ext (by omega)); (obtain rfl : b = b' := Fin.ext (by omega)); rfl
  | cases a <;> cases a' <;> simp only [rank, Side.ix, Ax.ix] at h <;>
      first
      | (exfalso; omega)
      | (obtain rfl : b = b' := Fin.ext (by omega)); rfl
  | cases sd <;> cases a' <;> simp only [rank, Side.ix, Ax.ix] at h <;> (exfalso; omega)
  | cases a <;> cases sd' <;> simp only [rank, Side.ix, Ax.ix] at h <;> (exfalso; omega)

/-- The credit a transfer of core `d` owes its arrival cell. -/
abbrev ow1 (d : Dev nD) (t : Tr) : CellTallies nD τ sig Unit := tallyAt (cell (tgt d t) (cR t)) () (trN t)
/-- What core `d` owes once the transfers before the `n`-th have started. -/
def Ow (d : Dev nD) (n : ℕ) : CellTallies nD τ sig Unit := ∑ t ∈ Finset.univ.filter (fun t => n ≤ rank t), ow1 d t

theorem Ow_peel (d : Dev nD) (t : Tr) : Ow d (rank t) = Ow d (rank t + 1) + ow1 d t := by
  unfold Ow
  have h : Finset.univ.filter (fun t' => rank t ≤ rank t') = insert t (Finset.univ.filter (fun t' => rank t + 1 ≤ rank t')) := by
    ext t'
    simp only [Finset.mem_filter, Finset.mem_univ, true_and, Finset.mem_insert]
    constructor
    · intro h
      rcases Nat.lt_or_ge (rank t) (rank t') with h' | h'
      · exact .inr h'
      · exact .inl (rank_injective (by omega))
    · rintro (rfl | h) <;> omega
  rw [h, Finset.sum_insert (by simp), add_comm]

theorem rank_lt (t : Tr) : rank t < 80 := by
  rcases t with ⟨s, b, sd⟩ | ⟨b, a⟩ | ⟨b, a⟩
  · cases sd <;> simp only [rank, Side.ix] <;> omega
  · cases a <;> simp only [rank, Ax.ix] <;> omega
  · cases a <;> simp only [rank, Ax.ix] <;> omega

theorem Ow_end (d : Dev nD) : Ow d 80 = 0 := by
  unfold Ow
  rw [Finset.filter_false_of_mem fun t _ => by have := rank_lt t; omega, Finset.sum_empty]

/-- A unit for barrier neighbour `i`. -/
abbrev owB (d : Dev nD) (i : Fin 4) : CellTallies nD τ sig Unit := tallyAt (cell (bt d i) cBar) () 1
/-- What core `d` owes at launch. -/
def O₀ (d : Dev nD) : CellTallies nD τ sig Unit := Ow d 0 + owB d 3 + owB d 2 + owB d 1 + owB d 0

/-- The cells with a wait level. -/
def L (g : GSem nD τ sig) : Finset Unit := if g.1.2 = .tc then {()} else ∅
/-- The level of a transfer's arrival. -/
abbrev trLv : Tr → ℕ
  | .ring s _ _ => 2 + s.val
  | .ag0 _ _ => 5
  | .ag1 _ _ => 6
/-- The level of a cell. -/
abbrev clLv : Cl → ℕ
  | cBar => 1
  | cR t => trLv t
  | _ => 0
/-- The levels. -/
def lv (g : GSem nD τ sig) (_ : Unit) : ℕ := match dec g.2 with | some cl => clLv cl | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (d : Dev nD) (cl : Cl) (u : Unit) : lv (cell d cl) u = clLv cl := by unfold lv; rw [dec_csem]

theorem tallyAt_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem sum_pos' (S : Finset Tr) (f : Tr → CellTallies nD τ sig Unit) {g : GSem nD τ sig} {u : Unit} (h : 0 < (∑ t ∈ S, f t) g u) :
    ∃ t ∈ S, 0 < f t g u := by
  rw [Finset.sum_apply, Finsupp.finset_sum_apply] at h
  by_contra hn
  push Not at hn
  rw [Finset.sum_eq_zero fun t ht => Nat.le_zero.mp (hn t ht)] at h
  exact Nat.lt_irrefl 0 h

theorem Ow_pos {d : Dev nD} {n : ℕ} {g : GSem nD τ sig} {u : Unit} (h : 0 < Ow d n g u) : ∃ t, n ≤ rank t ∧ g = cell (tgt d t) (cR t) := by
  obtain ⟨t, ht, h⟩ := sum_pos' _ _ h
  exact ⟨t, (Finset.mem_filter.mp ht).2, tallyAt_pos h⟩

theorem O₀_pos {d : Dev nD} {g : GSem nD τ sig} {u : Unit} (h : 0 < O₀ d g u) : (∃ t, g = cell (tgt d t) (cR t)) ∨ ∃ i, g = cell (bt d i) cBar := by
  unfold O₀ at h
  simp only [Pi.add_apply, Finsupp.add_apply] at h
  by_cases h0 : 0 < Ow d 0 g u
  · obtain ⟨t, -, ht⟩ := Ow_pos h0; exact .inl ⟨t, ht⟩
  · by_contra hn
    rw [not_or] at hn
    have hz (i : Fin 4) : owB d i g u = 0 := Nat.eq_zero_of_not_pos fun hp => hn.2 ⟨i, tallyAt_pos hp⟩
    rw [hz 0, hz 1, hz 2, hz 3] at h
    omega

/-- A core may wait on a cell below every arrival it still owes. -/
theorem mayWait (d : Dev nD) (cl : Cl) (n : ℕ) (h : ∀ t, n ≤ rank t → clLv cl < trLv t) :
    (levAts L lv : sProp 𝕄) ⊢ MayWait (d : Thread nD τ) (csem cl) () (Ow d n) :=
  MayOwe.of_cut (L := L) (lev := lv) (clLv cl) (fun p hp => by rw [Finset.mem_singleton.mp hp, L_tc]; exact Finset.mem_singleton_self _)
    (fun g u hg => by obtain ⟨t, -, rfl⟩ := Ow_pos hg; exact Finset.mem_singleton_self _)
    (fun p hp => by rw [Finset.mem_singleton.mp hp]; exact (lv_cell d cl ()).le)
    (fun g u hg => by obtain ⟨t, ht, rfl⟩ := Ow_pos hg; rw [lv_cell]; exact h t ht)

/-- A core may wait, at any point of the launch, on a semaphore that is none of the cells. -/
theorem mayWait_stage (d : Dev nD) (q : DmaSem sig) (hq : dec (.dma q) = none) (O : CellTallies nD τ sig Unit) (hO : O = O₀ d ∨ O = 0) :
    (levAts L lv : sProp 𝕄) ⊢ MayWait (d : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨i, rfl⟩ <;> exact Finset.mem_singleton_self _)
      (fun p hp => by rw [Finset.mem_singleton.mp hp]; unfold lv; dsimp only; rw [hq])
      (fun g u hg => by
        rcases O₀_pos hg with ⟨t, rfl⟩ | ⟨i, rfl⟩
        · rw [lv_cell]; cases t <;> simp only [clLv, trLv] <;> omega
        · rw [lv_cell]; exact Nat.one_pos)
  · rw [MayWait_zero]; iintro -; iempintro

end Cert.KernelIdeal.Body

end
-- ==== Proof.Ideal.Ops.lean ====
/-
  What each operation of the body does to what a core holds: the rule of every kind of operation, generic in the
  buffer, the side, the hop and the row block.
-/
module

public import proofs.«01_k».proof.Proof.Ideal.Sched
public import Idealize.ShloMosaic.Lib.MemrefSat

@[expose] public section

set_option synthInstance.maxSize 4096
set_option maxRecDepth 20000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop variants. -/
abbrev 𝒱₀ : Variants := Variants.none

/-- Core `d` runs `p` to `Q`. -/
abbrev WP (d : Dev nD) {α : Type} (p : Prog (TpuEff nD τ sig (Elt F) Λ₀ .tc) α) (Q : α → sProp 𝕄) : sProp 𝕄 :=
  wp frame (wpE (defs₀ (F := F)) 𝒱₀ (d : Thread nD τ) none) Set.univ p Q

/-! ### The shared records -/

variable (F) in
/-- The levels' record. -/
def levs : sProp 𝕄 := levAts L lv
instance levs_persistent : BI.Persistent (levs F) := by unfold levs; infer_instance
theorem levs_wait (d : Dev nD) (cl : Cl) (n : ℕ) (h : ∀ t, n ≤ rank t → clLv cl < trLv t) :
    levs F ⊢ MayWait (d : Thread nD τ) (csem cl) () (Ow d n) := mayWait d cl n h

/-- Every cell's invariant, that every cell has reached its round, and the levels. -/
def rcs (K : Dev nD × Cl → ℕ) : sProp 𝕄 :=
  iprop((bigSep Finset.univ fun p : Dev nD × Cl => cellInv ER (Rd m) (K p) (cell p.1 p.2))
    ∗ (bigSep Finset.univ fun p : Dev nD × Cl => reached ER (cell p.1 p.2) 0) ∗ levs F)

instance rcs_persistent (K : Dev nD × Cl → ℕ) : BI.Persistent (rcs m K) := by unfold rcs; infer_instance

variable {m} in
theorem rcs_inv {K : Dev nD × Cl → ℕ} (d : Dev nD) (cl : Cl) : rcs m K ⊢ cellInv ER (Rd m) (K (d, cl)) (cell d cl) := by
  unfold rcs
  iintro ⟨H, -, -⟩
  iapply (show (bigSep Finset.univ fun p : Dev nD × Cl => cellInv ER (Rd m) (K p) (cell p.1 p.2)) ⊢ cellInv ER (Rd m) (K (d, cl)) (cell d cl) from bigSep_elim (Finset.mem_univ (d, cl))); iexact H
variable {m} in
theorem rcs_reached {K : Dev nD × Cl → ℕ} (d : Dev nD) (cl : Cl) : rcs m K ⊢ reached ER (cell d cl) 0 := by
  unfold rcs
  iintro ⟨-, H, -⟩
  iapply (show (bigSep Finset.univ fun p : Dev nD × Cl => (reached ER (cell p.1 p.2) 0 : sProp 𝕄)) ⊢ reached ER (cell d cl) 0 from bigSep_elim (Finset.mem_univ (d, cl))); iexact H
variable {m} in
theorem rcs_lev {K : Dev nD × Cl → ℕ} : rcs m K ⊢ levs F := by
  unfold rcs
  iintro ⟨-, -, H⟩; iexact H

/-- Core `d` owes `O`, whatever it has waited for. -/
def OW (d : Dev nD) (O : CellTallies nD τ sig Unit) : sProp 𝕄 := iprop(∃ W, owes (d : Thread nD τ) O W)

/-- Core `d`'s turn at a cell. -/
abbrev at0 (d : Dev nD) (cl : Cl) : sProp 𝕄 := atPos ER (cell d cl) 0 ∅ 0
/-- The token of a cell's single duty. -/
abbrev tok (d : Dev nD) (cl : Cl) : sProp 𝕄 := dutyTok ER (cell d cl) 0 (0 : Fin 4)
/-- The credit of a cell. -/
abbrev crd (d : Dev nD) (cl : Cl) : sProp 𝕄 := cred (tallyAt (cell d cl) () (amt cl))
/-- A cell's counter at zero. -/
abbrev sv0 (d : Dev nD) (cl : Cl) : sProp 𝕄 := semVal (cell d cl) 0

variable (K : Dev nD × Cl → ℕ)

/-! ### The barrier -/

theorem pay_bar (d : Dev nD) (i : Fin 4) : pay m d cBar i = barPay d i := rfl

/-- A barrier signal hands its payload over and lowers what is owed by a unit. -/
theorem wp_sig1 (d : Dev nD) (i : Fin 4) (O : CellTallies nD τ sig Unit) (Q : PUnit → sProp 𝕄) :
    iprop(rcs m K ∗ OW d (O + owB d i) ∗ dutyTok ER (cell (bt d i) cBar) 0 i ∗ barPay (bt d i) i ∗ (OW d O -∗ Q ⟨⟩))
      ⊢ WP d (sig1 (F := F) d i) Q := by
  unfold sig1 OW
  simp only [semSignalWord, Prog.lift, Prog.bind_op, Prog.bind_ret, Prog.pure_eq_ret]
  iintro ⟨#HR, ⟨%W, HO⟩, Ht, Hp, Hk⟩
  iapply (Rounds.wp_signal 𝒱₀ ER (Rd m) (d : Thread nD τ) none (dst := (bt d i : Thread nD τ)) (κ := K (bt d i, cBar))
      (d := i) (by rw [duties_eq m (bt d i) cBar]; exact Finset.mem_univ _) ((amount_eq m (bt d i) cBar i).trans (by decide)) () O rfl)
    $$ [HO Ht Hp]
  · isplitr; · iapply (rcs_inv (bt d i) cBar); iexact HR
    isplitl [HO]; · iexact HO
    isplitl [Ht]; · iexact Ht
    isplitl [Hp]; · rw [payload_eq m (bt d i) cBar i, pay_bar]; iexact Hp
    iapply (rcs_reached (bt d i) cBar); iexact HR
  iintro HO
  rw [wp_ret]; imodintro
  iapply Hk; iexists W; iexact HO

/-- The barrier's wait brings the four neighbours' payloads, and the barrier's counter back at zero. -/
theorem wp_wait4 (d : Dev nD) (Q : PUnit → sProp 𝕄) :
    iprop(rcs m K ∗ OW d (Ow d 0) ∗ at0 d cBar ∗ cred (tallyAt (cell d cBar) () 4)
        ∗ ((OW d (Ow d 0) ∗ sv0 d cBar ∗ barPay d 0 ∗ barPay d 1 ∗ barPay d 2 ∗ barPay d 3) -∗ Q ⟨⟩))
      ⊢ WP d (wait4 (F := F)) Q := by
  unfold wait4 OW
  simp only [semWaitWord, Prog.lift, Prog.bind_op, Prog.bind_ret, Prog.pure_eq_ret]
  iintro ⟨#HR, ⟨%W, HO⟩, Hat, Hc, Hk⟩
  ihave Hl := (rcs_lev (m := m) (K := K)) $$ HR
  iapply (Rounds.wp_wait_rest_token 𝒱₀ ER (Rd m) (d : Thread nD τ) none (κ := K (d, cBar))
      (wpE_semWait_eq 𝒱₀ (d : Thread nD τ) none Set.univ) (Set.mem_univ _) () (O := Ow d 0) (W := W) (R := 0) (m := 0) (T := ∅)
      (by rw [expect_bar m d]; decide)) $$ [Hc HO Hat Hl]
  · isplitr; · iapply (rcs_inv d cBar); iexact HR
    isplitl [Hc]; · iexact Hc
    isplitl [HO]; · iexact HO
    isplitl [Hl]
    · iapply (levs_wait d cBar 0 (fun t _ => by cases t <;> simp only [clLv, trLv] <;> omega)); iexact Hl
    iexact Hat
  iintro ⟨HO, Hat, -, Hpay⟩
  ihave Hp := (Entails.of_eq (rest_bar m d)) $$ Hpay
  imod (Rounds.cell_close ER (Rd m) (Set.mem_univ (K (d, cBar))) (fun h => h) (R := 0 + 1) (duties_later m (cell d cBar))) $$ [Hat] with Hz
  · isplitr; · iapply (rcs_inv d cBar); iexact HR
    iexact Hat
  rw [wp_ret]; imodintro
  iapply Hk
  isplitl [HO]; · iexists _; iexact HO
  isplitl [Hz]; · iexact Hz
  iexact Hp

/-! ### Waits -/

/-- A wait on an own cell brings the cell's payload, and its counter back at zero. -/
theorem wp_waitO (d : Dev nD) (o : Oc) (n : ℕ) {s : DmaSem sig} (hs : osem o = .dma s) {sp sp' : Space} {sh sh' : Shape} {e e' : EltTy}
    {M1 : Memref sig .tc sp' sh' e'} {M2 : Memref sig .tc sp sh e} {h1 : M1.view.WordExact} {h2 : M2.view.WordExact}
    (hN : M2.view.dmaCredit = amt (some o)) (hl : ∀ t, n ≤ rank t → clLv (some o) < trLv t) (Q : PUnit → sProp 𝕄) :
    iprop(rcs m K ∗ OW d (Ow d n) ∗ at0 d (some o) ∗ crd d (some o)
        ∗ ((OW d (Ow d n) ∗ sv0 d (some o) ∗ pay m d (some o) 0) -∗ Q ⟨⟩))
      ⊢ WP d (Prog.lift (.waitDma2 s M1 M2 h1 h2)) Q := by
  unfold OW
  have hx := expect_own m d o
  have hr := rest_own m d o
  have hw := levs_wait (F := F) d (some o) n hl
  have hi := rcs_inv (m := m) (K := K) d (some o)
  have hdl := duties_later m (cell d (some o))
  unfold crd
  rw [← hN] at hx ⊢
  dsimp only [csem, at0, sv0, cell] at hx hr hw hi hdl ⊢
  rw [hs] at hx hr hw hi hdl ⊢
  simp only [Prog.lift, Prog.bind_op, Prog.bind_ret, Prog.pure_eq_ret]
  iintro ⟨#HR, ⟨%W, HO⟩, Hat, Hc, Hk⟩
  ihave Hl := (rcs_lev (m := m) (K := K)) $$ HR
  iapply (Rounds.wp_wait_rest_token 𝒱₀ ER (Rd m) (d : Thread nD τ) none (κ := K (d, some o))
      (wpE_waitDma2_eq 𝒱₀ (d : Thread nD τ) none Set.univ) (Set.mem_univ _) () (O := Ow d n) (W := W) (R := 0) (m := 0) (T := ∅)
      (by rw [Nat.zero_add, hx])) $$ [Hc HO Hat Hl]
  · isplitr; · iapply hi; iexact HR
    isplitl [Hc]; · iexact Hc
    isplitl [HO]; · iexact HO
    isplitl [Hl]
    · iapply hw; iexact Hl
    iexact Hat
  iintro ⟨HO, Hat, -, Hpay⟩
  ihave Hp := (Entails.of_eq hr) $$ Hpay
  imod (Rounds.cell_close ER (Rd m) (Set.mem_univ (K (d, some o))) (fun h => h) (R := 0 + 1) hdl) $$ [Hat] with Hz
  · isplitr; · iapply hi; iexact HR
    iexact Hat
  rw [wp_ret]; imodintro
  iapply Hk
  isplitl [HO]; · iexists _; iexact HO
  isplitl [Hz]; · iexact Hz
  iexact Hp

/-! ### Ownership through slices -/

/-- A buffer owned at what it reads gives contents. -/
theorem own_open (d : Dev nD) {sp : Space} {sh : Shape} {e : EltTy} (M : Memref sig .tc sp sh e) (q : PosShare TreeShare) (X : sh.Idx → Elt F e) :
    own d M q X ⊢ (iprop(∃ f, ⌜M.view.read (Elt F) f = X⌝ ∗ (M.view.loc (d : Thread nD τ) ↦[M.view.set]{q} f)) : sProp 𝕄) := .rfl

theorem own_close (d : Dev nD) {sp : Space} {sh : Shape} {e : EltTy} (M : Memref sig .tc sp sh e) (q : PosShare TreeShare) (X : sh.Idx → Elt F e)
    (f : M.view.ty.Contents (Elt F)) (h : M.view.read (Elt F) f = X) :
    (M.view.loc (d : Thread nD τ) ↦[M.view.set]{q} f) ⊢ (own d M q X : sProp 𝕄) := by
  subst h; exact owns_intro _ _ _ _

/-- A squeezed memref owned at a block cast to its shape is the memref owned at the block. -/
theorem own_squeeze (d : Dev nD) {sp : Space} {sh sh' : Shape} {e : EltTy} (M : Memref sig .tc sp sh e) (h : sh.Squeezes sh') (q : PosShare TreeShare)
    (X : sh.Idx → Elt F e) (h' : sh.ShapeCasts sh') :
    (own d (M.squeeze sh' h) q (shapeCast sh' X h') : sProp 𝕄) = own d M q X := by
  unfold own owns
  have hs : (M.squeeze sh' h).view.set = M.view.set := View.set_reshape _ _
  have hr (f : M.view.ty.Contents (Elt F)) : ((M.squeeze sh' h).view.read (Elt F) f = shapeCast sh' X h') = (M.view.read (Elt F) f = X) := by
    refine propext ⟨fun hh => funext fun i => ?_, fun hh => ?_⟩
    · have this := congrFun hh ((Shape.reshapeEquiv h').symm i)
      change M.view.read (Elt F) f ((Shape.reshapeEquiv h.numel_eq) ((Shape.reshapeEquiv h').symm i)) = X ((Shape.reshapeEquiv h') ((Shape.reshapeEquiv h').symm i)) at this
      rw [Equiv.apply_symm_apply] at this
      exact this
    · subst hh; rfl
  refine congrArg _ (funext fun f => ?_)
  rw [hs]
  exact congrArg (fun P : Prop => (iprop(⌜P⌝ ∗ (M.view.loc (d : Thread nD τ) ↦[M.view.set]{q} f)) : sProp 𝕄)) (hr f)

/-- A share in two halves. -/
theorem own_halves (d : Dev nD) {sp : Space} {sh : Shape} {e : EltTy} (M : Memref sig .tc sp sh e) (q : PosShare TreeShare) (X : sh.Idx → Elt F e) :
    (own d M q X : sProp 𝕄) ⊣⊢ iprop(own d M q.left X ∗ own d M q.right X) := owns_halves _ _ _ _

/-- A slice of what is owned. -/
theorem own_part (d : Dev nD) {sp : Space} {sh : Shape} {e : EltTy} (M : Memref sig .tc sp sh e) (q : PosShare TreeShare) (X : sh.Idx → Elt F e)
    (r : Rect sh) (hr : ∀ a, r.stride a = 1) : (own d M q X : sProp 𝕄) ⊢ own d (M.slice r hr) q (fun i => X (r.emb i)) :=
  (owns_slice_split (d : Thread nD τ) M q r hr X).trans (by iintro ⟨H, -⟩; iexact H)

/-! ### Loads and stores -/

/-- A load of part of a slice. -/
theorem wp_ldR (d : Dev nD) {cs : CoreSpace} {sh : Shape} {e : EltTy} (M : Memref sig .tc cs sh e) (r R : Rect sh) (hR : ∀ a, R.stride a = 1)
    (g : r.shape.Idx → R.shape.Idx) (hg : ∀ i, r.emb i = R.emb (g i)) {hl : M.view.LoadsAt r.toLoadRect} {q : PosShare TreeShare} {X : R.shape.Idx → Elt F e}
    {α : Type} {k : (r.shape.Idx → Elt F e) → Prog (TpuEff nD τ sig (Elt F) Λ₀ .tc) α} (Q : α → sProp 𝕄) :
    iprop(own d (M.slice R hR) q X ∗ (own d (M.slice R hR) q X -∗ WP d (k fun i => X (g i)) Q)) ⊢ WP d (.op (.load M r.toLoadRect hl) k) Q := by
  iintro ⟨H, Hk⟩
  ihave H := (own_open d (M.slice R hR) q X) $$ H
  icases H with ⟨%f, %hf, H⟩
  have hS : (M.access r).set ⊆ (M.slice R hR).view.set := by
    intro i hi
    rw [View.set, Finset.mem_map] at hi ⊢
    obtain ⟨x, -, rfl⟩ := hi
    exact ⟨g x, Finset.mem_univ _, congrArg M.view.emb (hg x).symm⟩
  have he : (M.access r).read (Elt F) f = fun i => X (g i) := by
    subst hf
    funext i
    exact congrArg (M.view.read (Elt F) f) (hg i)
  iapply (wp_load_rect 𝒱₀ (d : Thread nD τ) none Set.univ (m := M) (r := r) hS) $$ [H]
  · iexact H
  iintro H
  rw [he]
  iapply Hk
  iapply (own_close d (M.slice R hR) q X f hf); iexact H

/-- A load of a slice. -/
theorem wp_ldS (d : Dev nD) {cs : CoreSpace} {sh : Shape} {e : EltTy} (M : Memref sig .tc cs sh e) (r : Rect sh) (hr : ∀ a, r.stride a = 1)
    {hl : M.view.LoadsAt r.toLoadRect} {q : PosShare TreeShare} {X : r.shape.Idx → Elt F e}
    {α : Type} {k : (r.shape.Idx → Elt F e) → Prog (TpuEff nD τ sig (Elt F) Λ₀ .tc) α} (Q : α → sProp 𝕄) :
    iprop(own d (M.slice r hr) q X ∗ (own d (M.slice r hr) q X -∗ WP d (k X) Q)) ⊢ WP d (.op (.load M r.toLoadRect hl) k) Q :=
  wp_ldR d M r r hr id (fun _ => rfl) Q

/-- A store of a slice. -/
theorem wp_stS (d : Dev nD) {cs : CoreSpace} {sh : Shape} {e : EltTy} (M : Memref sig .tc cs sh e) (r : Rect sh) (hr : ∀ a, r.stride a = 1)
    {w X : r.shape.Idx → Elt F e} {hx : (M.access r).Stores Finset.univ} {hm : (Finset.univ : Finset r.shape.Idx) = Finset.univ ∨ ∀ a, r.stride a = 1}
    {α : Type} {k : PUnit → Prog (TpuEff nD τ sig (Elt F) Λ₀ .tc) α} (Q : α → sProp 𝕄) :
    iprop(own d (M.slice r hr) fullShare X ∗ (own d (M.slice r hr) fullShare w -∗ WP d (k ⟨⟩) Q)) ⊢ WP d (.op (.store M r w Finset.univ hx hm) k) Q := by
  iintro ⟨H, Hk⟩
  ihave H := (own_open d (M.slice r hr) fullShare X) $$ H
  icases H with ⟨%f, %hf, H⟩
  iapply (wp_store 𝒱₀ (d : Thread nD τ) none Set.univ (m := M) (r := r) (Mk := Finset.univ) (S := (M.slice r hr).view.set) (Finset.Subset.refl _)) $$ [H]
  · iexact H
  iintro H
  iapply Hk
  iapply (own_close d (M.slice r hr) fullShare w _ (View.read_write_univ (v := (M.slice r hr).view) f w)); iexact H

/-! ### Transfers -/

/-- Whatever a core owns is something it owns. -/
theorem own_ownE (d : Dev nD) {sp : Space} {sh : Shape} {e : EltTy} (M : Memref sig .tc sp sh e) (X : sh.Idx → Elt F e) :
    own d M fullShare X ⊢ (ownE d M : sProp 𝕄) := by unfold ownE; iintro H; iexists X; iexact H

theorem routes_all : ∀ d e : Dev nD, τ.routes (d : Thread nD τ) (e : Thread nD τ) = true := by decide +kernel

/-- A transfer to another core: the source lent, the destination handed over, what is owed lowered. -/
theorem wp_send (d : Dev nD) (t : Tr) (n : ℕ) (hn : n = rank t) {sp sp' : Space} {sh : Shape} {e : EltTy}
    {M1 : Memref sig .tc sp sh e} {M2 : Memref sig .tc sp' sh e} {hsc : M2.view.ref.isScScratch = false}
    {h1 : M1.view.WordExact} {h2 : M2.view.WordExact} {hT : DmaTarget.Typed sp (.dma (sR t)) (.remote (Dev.tc (tgt d t) : Thread nD τ) M2 (.dma (sS t)) hsc)}
    (hN : M2.view.dmaCredit = trN t) (q : PosShare TreeShare) (X : sh.Idx → Elt F e)
    (hp1 : own d M1 q X ⊢ sPay m d t) (hp2 : own (tgt d t) M2 fullShare X ⊢ rPay m (tgt d t) t) (Q : PUnit → sProp 𝕄) :
    iprop(rcs m K ∗ OW d (Ow d n) ∗ tok d (cS t) ∗ tok (tgt d t) (cR t) ∗ own d M1 q X ∗ ownE (tgt d t) M2
        ∗ ((OW d (Ow d (n + 1)) ∗ crd d (cS t)) -∗ Q ⟨⟩))
      ⊢ WP d (Prog.lift (.enqueueDma M1 (.remote (Dev.tc (tgt d t)) M2 (.dma (sS t)) hsc) (.dma (sR t)) h1 h2 hT)) Q := by
  subst hn
  unfold OW ownE
  simp only [Prog.lift, Prog.bind_op, Prog.bind_ret, Prog.pure_eq_ret]
  iintro ⟨#HR, ⟨%W, HO⟩, Ht1, Ht2, Hs, ⟨%Y, Hd⟩, Hk⟩
  ihave Hs := (own_open d M1 q X) $$ Hs
  icases Hs with ⟨%f, %hf, Hs⟩
  ihave Hd := (own_open (tgt d t) M2 fullShare Y) $$ Hd
  icases Hd with ⟨%g, %hg, Hd⟩
  iapply (Rounds.wp_send_pointsTo 𝒱₀ ER (Rd m) (d : Thread nD τ) none (κ₁ := K (d, cS t)) (κ₂ := K (tgt d t, cR t))
    (c' := (tgt d t : Thread nD τ)) (sS := .dma (sS t)) (sem := .dma (sR t)) (src := M1) (dst := M2) (q := q) (fs := f) (fd := g)
    (r₁ := 0) (r₂ := 0) (d₁ := (0 : Fin 4)) (d₂ := (0 : Fin 4))
    (by rw [duties_eq m d (cS t)]; exact Finset.mem_singleton_self _) (by rw [duties_eq m (tgt d t) (cR t)]; exact Finset.mem_singleton_self _)
    () () (trN t) hN (amount_eq m d (cS t) 0) (amount_eq m (tgt d t) (cR t) 0) (Ow d (rank t + 1)) (Ow_peel d t) (W := W)
    (by rw [payload_eq m d (cS t) 0]; exact (own_close d M1 q X f hf).trans hp1)
    (by
      rw [payload_eq m (tgt d t) (cR t) 0]
      refine (own_close (tgt d t) M2 fullShare X _ ?_).trans hp2
      rw [View.read_write_univ]; exact hf)
    (routes_all d (tgt d t))) $$ [Hs Hd HO Ht1 Ht2]
  · isplitr; · iapply (rcs_inv d (cS t)); iexact HR
    isplitr; · iapply (rcs_inv (tgt d t) (cR t)); iexact HR
    isplitl [Hs]; · iexact Hs
    isplitl [Hd]; · iexact Hd
    isplitl [HO]; · iexact HO
    isplitl [Ht1]; · iexact Ht1
    isplitr; · iapply (rcs_reached d (cS t)); iexact HR
    isplitl [Ht2]; · iexact Ht2
    iapply (rcs_reached (tgt d t) (cR t)); iexact HR
  iintro ⟨Hc, HO⟩
  rw [wp_ret]; imodintro
  iapply Hk
  isplitl [HO]; · iexists W; iexact HO
  iexact Hc

/-- A load of the operand's columns: part of a share of the operand lent for good, the staging buffer handed over. -/
theorem wp_ld (d : Dev nD) (j : Fin 4) (sd : Side) (Q : PUnit → sProp 𝕄) :
    iprop(rcs m K ∗ tok d (cLd j sd) ∗ (∃ q, own d xM q (xa m d)) ∗ ownE d (faB sd)
        ∗ (((∃ q, own d xM q (xa m d)) ∗ crd d (cLd j sd)) -∗ Q ⟨⟩))
      ⊢ WP d (ld (F := F) d j sd) Q := by
  unfold ld ownE
  simp only [Prog.lift, Prog.bind_op, Prog.bind_ret, Prog.pure_eq_ret]
  iintro ⟨#HR, Ht, ⟨%q, Hx⟩, ⟨%Y, Hd⟩, Hk⟩
  ihave Hx := (own_halves d xM q (xa m d)).1 $$ Hx
  icases Hx with ⟨Hx, Hx'⟩
  ihave Hx := (own_part d xM q.left (xa m d) (rLd d j sd) (fun _ => rfl)) $$ Hx
  ihave Hx := (Entails.of_eq (own_squeeze d (xM.slice (rLd d j sd) (fun _ => rfl)) squeezes_S1x4096x128_S4096x128 q.left (FA m d j sd) squeezes_S1x4096x128_S4096x128.numel_eq).symm) $$ [Hx]
  · iexact Hx
  ihave Hx := (own_open d (xV d j sd) q.left _) $$ Hx
  icases Hx with ⟨%f, %hf, Hx⟩
  ihave Hd := (Entails.of_eq (own_squeeze d (faB sd) squeezes_S1x4096x128_S4096x128 fullShare Y squeezes_S1x4096x128_S4096x128.numel_eq).symm) $$ [Hd]
  · iexact Hd
  ihave Hd := (own_open d (faV sd) fullShare _) $$ Hd
  icases Hd with ⟨%g, %hg, Hd⟩
  iapply (Rounds.wp_copy_pointsTo 𝒱₀ ER (Rd m) (d : Thread nD τ) none (κ := K (d, cLd j sd)) (src := xV d j sd) (dst := faV sd)
    (q := q.left) (fs := f) (fd := g) (r := 0) (d := (0 : Fin 4))
    (by rw [duties_eq m d (cLd j sd)]; exact Finset.mem_singleton_self _)
    () NF (by cases sd <;> rfl) (amount_eq m d (cLd j sd) 0)
    (by
      rw [payload_eq m d (cLd j sd) 0]
      unfold pay
      iintro ⟨H, -⟩
      iapply (Entails.of_eq (own_squeeze d (faB sd) squeezes_S1x4096x128_S4096x128 fullShare (FA m d j sd) squeezes_S1x4096x128_S4096x128.numel_eq))
      iapply (own_close d (faV sd) fullShare (shapeCast S4096x128 (FA m d j sd) squeezes_S1x4096x128_S4096x128.numel_eq) _ ((View.read_write_univ (v := (faV sd).view) _ _).trans hf)); iexact H)) $$ [Hx Hd Ht]
  · isplitr; · iapply (rcs_inv d (cLd j sd)); iexact HR
    isplitl [Hx]; · iexact Hx
    isplitl [Hd]; · iexact Hd
    isplitl [Ht]; · iexact Ht
    iapply (rcs_reached d (cLd j sd)); iexact HR
  iintro Hc
  rw [wp_ret]; imodintro
  iapply Hk
  isplitl [Hx']; · iexists _; iexact Hx'
  iexact Hc

end Cert.KernelIdeal.Body

end
-- ==== Proof.Ideal.Steps.lean ====
/-
  The body's own operations: what each does to a core's blocks, by the generic rules of `Ops`.
-/
module

public import proofs.«01_k».proof.Proof.Ideal.Ops
public import Idealize.ShloMosaic.Lib.Pipeline.Value
public import Idealize.ShloMosaic.Lib.Pipeline.ValueKit.Geometry

@[expose] public section

set_option synthInstance.maxSize 4096
set_option maxRecDepth 20000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-! ### Blocks cast between their two shapes -/

theorem dn_up (Y : Vec F S512x128 .bf16) : dn (up Y) = Y := shapeCast_shapeCast _ _ _
theorem up_dn (X : Vec F S1x512x128 .bf16) : up (dn X) = X := shapeCast_shapeCast _ _ _

theorem cm_dn (d : Dev nD) (sd : Side) (s : Fin 3) (b : Fin 8) (q : PosShare TreeShare) (X : Vec F S1x512x128 .bf16) :
    (own d (cmV sd s b) q (dn X) : sProp 𝕄) = own d (cmB sd s b) q X :=
  own_squeeze d (cmB sd s b) squeezes_S1x512x128_S512x128 q X shapeCasts_S1x512x128_S512x128
theorem cm_up (d : Dev nD) (sd : Side) (s : Fin 3) (b : Fin 8) (q : PosShare TreeShare) (Y : Vec F S512x128 .bf16) :
    (own d (cmV sd s b) q Y : sProp 𝕄) = own d (cmB sd s b) q (up Y) := by
  rw [← cm_dn d sd s b q (up Y), dn_up]
theorem cmE (d : Dev nD) (sd : Side) (s : Fin 3) (b : Fin 8) : (ownE d (cmB sd s b) : sProp 𝕄) ⊢ ownE d (cmV sd s b) := by
  unfold ownE
  iintro ⟨%X, H⟩; iexists (dn X : Vec F S512x128 .bf16); rw [cm_dn]; iexact H
theorem cmE' (d : Dev nD) (sd : Side) (s : Fin 3) (b : Fin 8) : (ownE d (cmV sd s b) : sProp 𝕄) ⊢ ownE d (cmB sd s b) := by
  unfold ownE
  iintro ⟨%X, H⟩; iexists (up X : Vec F S1x512x128 .bf16); rw [← cm_up]; iexact H

/-! ### Parts of the result -/

/-- A rectangle of the result held at part of `G` is its elements held at `G`. -/
theorem out_eq (d : Dev nD) (r : Rect S4096x1024) (hr : ∀ a, r.stride a = 1) (p : PosShare TreeShare) (G : Vec F S4096x1024 .bf16) :
    (own d (outM.slice r hr) p (fun i => G (r.emb i)) : sProp 𝕄) = ((d : Thread nD τ).loc cc0_stg0_0) ↦[r.set]{p} G := by
  have h := owns_slice_read (Ix := Unit) (Name := ℕ) (U := UU) (Lvl := ℕ) (Val := Elt F) (d : Thread nD τ) outM p r hr (G : cc0_stg0_0.ty.Contents (Elt F))
  rw [show (outM.view.slice r).set = r.set from View.set_slice_whole cc0_stg0_0 r] at h
  exact h

/-- The low half of a quarter. -/
abbrev Qr.lo : Qr → Hf
  | .own => .ownLo | .qx => .qxLo | .qy => .qyLo | .qd => .qdLo
/-- The high half of a quarter. -/
abbrev Qr.hi : Qr → Hf
  | .own => .ownHi | .qx => .qxHi | .qy => .qyHi | .qd => .qdHi

theorem colH_lo : ∀ (d : Dev nD), colH d .ownLo = colW d .own ∧ colH d .qxLo = colW d .qx ∧ colH d .qyLo = colW d .qy ∧ colH d .qdLo = colW d .qd := by
  decide +kernel
theorem colH_hi : ∀ (d : Dev nD), colH d .ownHi = colW d .own + 128 ∧ colH d .qxHi = colW d .qx + 128 ∧ colH d .qyHi = colW d .qy + 128
    ∧ colH d .qdHi = colW d .qd + 128 := by decide +kernel
theorem colLo (d : Dev nD) (q : Qr) : colH d q.lo = colW d q := by
  obtain ⟨h1, h2, h3, h4⟩ := colH_lo d
  cases q
  · exact h1
  · exact h2
  · exact h3
  · exact h4
theorem colHi (d : Dev nD) (q : Qr) : colH d q.hi = colW d q + 128 := by
  obtain ⟨h1, h2, h3, h4⟩ := colH_hi d
  cases q
  · exact h1
  · exact h2
  · exact h3
  · exact h4

theorem mem_rW {d : Dev nD} {q : Qr} {b : Fin 8} {i : S4096x1024.Idx} :
    i ∈ (rW d q b).set ↔ (512 * b.val ≤ (i 0).val ∧ (i 0).val < 512 * b.val + 512) ∧ colW d q ≤ (i 1).val ∧ (i 1).val < colW d q + 256 := by
  rw [Rect.mem_set_unit]
  exact Fin.forall_fin_two
theorem mem_rH {d : Dev nD} {h : Hf} {b : Fin 8} {i : S4096x1024.Idx} :
    i ∈ (rH d h b).set ↔ (512 * b.val ≤ (i 0).val ∧ (i 0).val < 512 * b.val + 512) ∧ colH d h ≤ (i 1).val ∧ (i 1).val < colH d h + 128 := by
  rw [Rect.mem_set_unit]
  exact Fin.forall_fin_two

/-- A quarter's row block is its two halves'. -/
theorem out_halves (d : Dev nD) (q : Qr) (b : Fin 8) (p : PosShare TreeShare) (G : Vec F S4096x1024 .bf16) :
    (own d (wV d q b) p (fun i => G ((rW d q b).emb i)) : sProp 𝕄)
      ⊣⊢ iprop(own d (hV d q.lo b) p (fun i => G ((rH d q.lo b).emb i)) ∗ own d (hV d q.hi b) p (fun i => G ((rH d q.hi b).emb i))) := by
  have e0 : (own d (wV d q b) p (fun i => G ((rW d q b).emb i)) : sProp 𝕄) = _ := out_eq d (rW d q b) (fun _ => rfl) p G
  have e1 : ∀ h, (own d (hV d h b) p (fun i => G ((rH d h b).emb i)) : sProp 𝕄) = _ := fun h => out_eq d (rH d h b) (fun _ => rfl) p G
  rw [e0, e1, e1]
  have hlo := colLo d q
  have hhi := colHi d q
  have hu : (rW d q b).set = (rH d q.lo b).set ∪ (rH d q.hi b).set := by
    ext i
    rw [Finset.mem_union, mem_rW, mem_rH, mem_rH, hlo, hhi]
    omega
  have hd : Disjoint (rH d q.lo b).set (rH d q.hi b).set := by
    rw [Finset.disjoint_left]
    intro i h1 h2
    rw [mem_rH] at h1 h2
    rw [hlo] at h1; rw [hhi] at h2
    omega
  rw [hu]
  exact pointsTo_union hd

/-- The quarters and halves a core and its axis neighbour call by different names are the same columns. -/
theorem col_nbr : ∀ (d : Dev nD), (colW d .own = colW (ax d .x) .qx ∧ colW d .own = colW (ax d .y) .qy)
    ∧ colH d .qyHi = colH (ax d .x) .qdHi ∧ colH d .qxLo = colH (ax d .y) .qdLo := by decide +kernel

theorem rW_col {d e : Dev nD} {q q' : Qr} (h : colW d q = colW e q') (b : Fin 8) : rW d q b = rW e q' b :=
  Rect.unit_congr (by rw [h]) _ _
theorem rH_col {d e : Dev nD} {q q' : Hf} (h : colH d q = colH e q') (b : Fin 8) : rH d q b = rH e q' b :=
  Rect.unit_congr (by rw [h]) _ _

theorem rW_nbr (d : Dev nD) (a : Ax) (b : Fin 8) : rW d .own b = rW (ax d a) a.q b := by
  cases a
  · exact rW_col (col_nbr d).1.1 b
  · exact rW_col (col_nbr d).1.2 b
theorem rH_nbr (d : Dev nD) (a : Ax) (b : Fin 8) : rH d a.h1 b = rH (ax d a) a.d1 b := by
  cases a
  · exact rH_col (col_nbr d).2.1 b
  · exact rH_col (col_nbr d).2.2 b

/-! ### Loads and waits -/

theorem wp_ldw (d : Dev nD) (j : Fin 4) (sd : Side) (n : ℕ) (Q : PUnit → sProp 𝕄) :
    iprop(rcs m K ∗ OW d (Ow d n) ∗ at0 d (cLd j sd) ∗ crd d (cLd j sd)
        ∗ ((OW d (Ow d n) ∗ sv0 d (cLd j sd) ∗ own d (faB sd) fullShare (FA m d j sd)) -∗ Q ⟨⟩))
      ⊢ WP d (ldw (F := F) d j sd) Q :=
  wp_waitO m K d (.inl (j, sd)) n rfl (by cases sd <;> rfl) (fun t _ => by cases t <;> simp only [clLv, trLv] <;> omega) Q

/-- The credit of a ring's block, sent or received. -/
theorem cm_credit (sd : Side) (s : Fin 3) (b : Fin 8) : (cmV sd s b).view.dmaCredit = NC := by cases sd <;> rfl
theorem src_credit (sd : Side) (s : Fin 3) (b : Fin 8) : (srcV sd s b).view.dmaCredit = NC := by
  cases sd <;> fin_cases s <;> rfl

theorem wp_rcv (d : Dev nD) (sd : Side) (s : Fin 3) (b : Fin 8) (n : ℕ) (hn : 16 * (s.val + 1) ≤ n) (Q : PUnit → sProp 𝕄) :
    iprop(rcs m K ∗ OW d (Ow d n) ∗ at0 d (cR (.ring s b sd)) ∗ crd d (cR (.ring s b sd))
        ∗ ((OW d (Ow d n) ∗ sv0 d (cR (.ring s b sd)) ∗ own d (cmB sd s b) fullShare (RR m d s b sd)) -∗ Q ⟨⟩))
      ⊢ WP d (rcv (F := F) sd s b) Q :=
  wp_waitO m K d (.inr (.inr (.ring s b sd))) n rfl (cm_credit sd s b) (fun t ht => by
    rcases t with ⟨s', b', sd'⟩ | ⟨b', a⟩ | ⟨b', a⟩ <;> simp only [clLv, trLv] <;>
      first
      | (cases sd' <;> simp only [rank, Side.ix] at ht <;> omega)
      | omega) Q

theorem wp_sndw (d : Dev nD) (sd : Side) (s : Fin 3) (b : Fin 8) (Q : PUnit → sProp 𝕄) :
    iprop(rcs m K ∗ OW d (Ow d 80) ∗ at0 d (cS (.ring s b sd)) ∗ crd d (cS (.ring s b sd))
        ∗ ((OW d (Ow d 80) ∗ sv0 d (cS (.ring s b sd)) ∗ ownE d (srcV sd s b)) -∗ Q ⟨⟩))
      ⊢ WP d (sndw (F := F) sd s b) Q :=
  wp_waitO m K d (.inr (.inl (.ring s b sd))) 80 rfl (src_credit sd s b) (fun t ht => absurd (rank_lt t) (by omega)) Q

theorem wp_ag0r (d : Dev nD) (a : Ax) (b : Fin 8) (n : ℕ) (hn : 64 ≤ n) (Q : PUnit → sProp 𝕄) :
    iprop(rcs m K ∗ OW d (Ow d n) ∗ at0 d (cR (.ag0 b a)) ∗ crd d (cR (.ag0 b a))
        ∗ ((OW d (Ow d n) ∗ sv0 d (cR (.ag0 b a)) ∗ outW m d a.q b fullShare) -∗ Q ⟨⟩))
      ⊢ WP d (ag0r (F := F) d a b) Q :=
  wp_waitO m K d (.inr (.inr (.ag0 b a))) n rfl (by cases a <;> rfl) (fun t ht => by
    rcases t with ⟨s', b', sd'⟩ | ⟨b', a'⟩ | ⟨b', a'⟩ <;> simp only [clLv, trLv]
    · cases sd' <;> simp only [rank, Side.ix] at ht <;> omega
    · cases a' <;> simp only [rank, Ax.ix] at ht <;> omega
    · omega) Q

theorem wp_ag0s (d : Dev nD) (a : Ax) (b : Fin 8) (Q : PUnit → sProp 𝕄) :
    iprop(rcs m K ∗ OW d (Ow d 80) ∗ at0 d (cS (.ag0 b a)) ∗ crd d (cS (.ag0 b a))
        ∗ ((OW d (Ow d 80) ∗ sv0 d (cS (.ag0 b a)) ∗ outW m d .own b a.sh) -∗ Q ⟨⟩))
      ⊢ WP d (ag0s (F := F) d a b) Q :=
  wp_waitO m K d (.inr (.inl (.ag0 b a))) 80 rfl (by cases a <;> rfl) (fun t ht => absurd (rank_lt t) (by omega)) Q

theorem wp_ag1r (d : Dev nD) (a : Ax) (b : Fin 8) (Q : PUnit → sProp 𝕄) :
    iprop(rcs m K ∗ OW d (Ow d 80) ∗ at0 d (cR (.ag1 b a)) ∗ crd d (cR (.ag1 b a))
        ∗ ((OW d (Ow d 80) ∗ sv0 d (cR (.ag1 b a)) ∗ outH m d a.d1 b fullShare) -∗ Q ⟨⟩))
      ⊢ WP d (ag1r (F := F) d a b) Q :=
  wp_waitO m K d (.inr (.inr (.ag1 b a))) 80 rfl (by cases a <;> rfl) (fun t ht => absurd (rank_lt t) (by omega)) Q

theorem wp_ag1s (d : Dev nD) (a : Ax) (b : Fin 8) (Q : PUnit → sProp 𝕄) :
    iprop(rcs m K ∗ OW d (Ow d 80) ∗ at0 d (cS (.ag1 b a)) ∗ crd d (cS (.ag1 b a))
        ∗ ((OW d (Ow d 80) ∗ sv0 d (cS (.ag1 b a)) ∗ outH m d a.h1 b fullShare) -∗ Q ⟨⟩))
      ⊢ WP d (ag1s (F := F) d a b) Q :=
  wp_waitO m K d (.inr (.inl (.ag1 b a))) 80 rfl (by cases a <;> rfl) (fun t ht => absurd (rank_lt t) (by omega)) Q

/-! ### Sends -/

/-- What sending a row block of hop `s` takes besides the block: the two tokens and the neighbour's block. -/
def SD (d : Dev nD) (s : Fin 3) (b : Fin 8) (sd : Side) : sProp 𝕄 :=
  iprop(tok d (cS (.ring s b sd)) ∗ tok (nx d sd) (cR (.ring s b sd)) ∗ ownE (nx d sd) (cmB sd s b))

theorem wp_snd (d : Dev nD) (sd : Side) (s : Fin 3) (b : Fin 8) (n : ℕ) (hn : n = 16 * s.val + 2 * b.val + sd.ix) (Q : PUnit → sProp 𝕄) :
    iprop(rcs m K ∗ OW d (Ow d n) ∗ SD d s b sd ∗ own d (srcV sd s b) fullShare (CC m s d sd b)
        ∗ ((OW d (Ow d (n + 1)) ∗ crd d (cS (.ring s b sd))) -∗ Q ⟨⟩))
      ⊢ WP d (snd (F := F) d sd s b) Q := by
  unfold SD
  iintro ⟨#HR, HO, ⟨Ht1, Ht2, Hd⟩, Hs, Hk⟩
  iapply (wp_send m K d (.ring s b sd) n hn (M1 := srcV sd s b) (M2 := cmV sd s b) (cm_credit sd s b) fullShare (CC m s d sd b)
    (own_ownE d (srcV sd s b) _)
    (Entails.of_eq (by rw [cm_up]; unfold rPay; dsimp only; rw [RR, pv_nx])) Q)
  isplitr; · iexact HR
  isplitl [HO]; · iexact HO
  isplitl [Ht1]; · iexact Ht1
  isplitl [Ht2]; · iexact Ht2
  isplitl [Hs]; · iexact Hs
  isplitl [Hd]; · iapply cmE; iexact Hd
  iexact Hk

/-- What sending the own quarter's row block along an axis takes. -/
def SX (d : Dev nD) (b : Fin 8) (a : Ax) : sProp 𝕄 :=
  iprop(tok d (cS (.ag0 b a)) ∗ tok (ax d a) (cR (.ag0 b a)) ∗ ownE (ax d a) (wV (ax d a) a.q b))
/-- What sending a half on along an axis takes. -/
def SY (d : Dev nD) (b : Fin 8) (a : Ax) : sProp 𝕄 :=
  iprop(tok d (cS (.ag1 b a)) ∗ tok (ax d a) (cR (.ag1 b a)) ∗ ownE (ax d a) (hV (ax d a) a.d1 b))

/-- Owning a slice of the result through equal rectangles. -/
theorem ownE_rect (d : Dev nD) {sz : Fin 2 → ℕ} {o o' : Fin 2 → ℕ} {i1 i2} (h : Rect.unit (s := S4096x1024) o sz i1 = Rect.unit (s := S4096x1024) o' sz i2) :
    (ownE d (outM.slice (Rect.unit (s := S4096x1024) o sz i1) (fun _ => rfl)) : sProp 𝕄) ⊢ ownE d (outM.slice (Rect.unit (s := S4096x1024) o' sz i2) (fun _ => rfl)) := by
  have ho : o = o' := congrArg (fun r : Rect S4096x1024 => r.off) h
  subst ho
  exact .rfl
theorem own_rect (d : Dev nD) (p : PosShare TreeShare) (G : Vec F S4096x1024 .bf16) {sz : Fin 2 → ℕ} {o o' : Fin 2 → ℕ} {i1 i2}
    (h : Rect.unit (s := S4096x1024) o sz i1 = Rect.unit (s := S4096x1024) o' sz i2) :
    (own d (outM.slice (Rect.unit (s := S4096x1024) o sz i1) (fun _ => rfl)) p (fun i => G ((Rect.unit (s := S4096x1024) o sz i1).emb i)) : sProp 𝕄)
      ⊢ own d (outM.slice (Rect.unit (s := S4096x1024) o' sz i2) (fun _ => rfl)) p (fun i => G ((Rect.unit (s := S4096x1024) o' sz i2).emb i)) := by
  have ho : o = o' := congrArg (fun r : Rect S4096x1024 => r.off) h
  subst ho
  exact .rfl

theorem wp_ag0 (d : Dev nD) (a : Ax) (b : Fin 8) (n : ℕ) (hn : n = 48 + 2 * b.val + a.ix) (Q : PUnit → sProp 𝕄) :
    iprop(rcs m K ∗ OW d (Ow d n) ∗ SX d b a ∗ outW m d .own b a.sh
        ∗ ((OW d (Ow d (n + 1)) ∗ crd d (cS (.ag0 b a))) -∗ Q ⟨⟩))
      ⊢ WP d (ag0 (F := F) d a b) Q := by
  unfold SX
  iintro ⟨#HR, HO, ⟨Ht1, Ht2, Hd⟩, Hs, Hk⟩
  iapply (wp_send m K d (.ag0 b a) n hn (M1 := wV d .own b) (M2 := wV d .own b) rfl a.sh (fun i => OUT m d ((rW d .own b).emb i))
    .rfl (by unfold rPay; dsimp only; unfold outW; rw [OUT_ax]; exact own_rect _ _ _ (rW_nbr d a b)) Q)
  isplitr; · iexact HR
  isplitl [HO]; · iexact HO
  isplitl [Ht1]; · iexact Ht1
  isplitl [Ht2]; · iexact Ht2
  isplitl [Hs]; · iexact Hs
  isplitl [Hd]; · iapply (ownE_rect (ax d a) (rW_nbr d a b).symm); iexact Hd
  iexact Hk

theorem wp_ag1 (d : Dev nD) (a : Ax) (b : Fin 8) (n : ℕ) (hn : n = 72 - 8 * a.ix + b.val) (Q : PUnit → sProp 𝕄) :
    iprop(rcs m K ∗ OW d (Ow d n) ∗ SY d b a ∗ outH m d a.h1 b fullShare
        ∗ ((OW d (Ow d (n + 1)) ∗ crd d (cS (.ag1 b a))) -∗ Q ⟨⟩))
      ⊢ WP d (ag1 (F := F) d a b) Q := by
  unfold SY
  iintro ⟨#HR, HO, ⟨Ht1, Ht2, Hd⟩, Hs, Hk⟩
  iapply (wp_send m K d (.ag1 b a) n hn (M1 := hV d a.h1 b) (M2 := hV d a.h1 b) rfl fullShare (fun i => OUT m d ((rH d a.h1 b).emb i))
    .rfl (by unfold rPay; dsimp only; unfold outH; rw [OUT_ax]; exact own_rect _ _ _ (rH_nbr d a b)) Q)
  isplitr; · iexact HR
  isplitl [HO]; · iexact HO
  isplitl [Ht1]; · iexact Ht1
  isplitl [Ht2]; · iexact Ht2
  isplitl [Hs]; · iexact Hs
  isplitl [Hd]; · iapply (ownE_rect (ax d a) (rH_nbr d a b).symm); iexact Hd
  iexact Hk

/-! ### The arithmetic -/

theorem wp_done (d : Dev nD) {α : Type} (a : α) (Q : α → sProp 𝕄) : Q a ⊢ WP d (.ret a) Q := by
  unfold WP
  rw [wp_ret]
  iintro H; imodintro; iexact H

theorem fab_emb (sd : Side) (b : Fin 8) (i : S1x512x128.Idx) : (rFab sd b).emb i = (rFa sd).emb ((rBk b).emb i) := by
  funext a
  refine Fin.ext ?_
  have h0 : (i 0).val = 0 := by have := (i 0).isLt; change (i 0).val < 1 at this; omega
  rw [ValueKit.rect_emb_unit_val]
  rw [ValueKit.rect_emb_unit_val]
  rw [ValueKit.rect_emb_unit_val]
  fin_cases a
  · show sd.ix + (i 0).val = sd.ix + (0 + (i 0).val); omega
  · show 512 * b.val + (i 1).val = 0 + (512 * b.val + (i 1).val); omega
  · show 0 + (i 2).val = 0 + (0 + (i 2).val); omega

/-- Loading a row block of the staged columns. -/
theorem wp_ldF (d : Dev nD) (j : Fin 4) (sd : Side) (b : Fin 8) {hl : faM.view.LoadsAt (rFab sd b).toLoadRect}
    {α : Type} {k : Vec F S1x512x128 .f32 → Prog (TpuEff nD τ sig (Elt F) Λ₀ .tc) α} (Q : α → sProp 𝕄) :
    iprop(own d (faB sd) fullShare (FA m d j sd) ∗ (own d (faB sd) fullShare (FA m d j sd) -∗ WP d (k (fab m d j sd b)) Q))
      ⊢ WP d (.op (.load faM (rFab sd b).toLoadRect hl) k) Q :=
  wp_ldR d faM (rFab sd b) (rFa sd) (fun _ => rfl) (fun i => (rBk b).emb i) (fab_emb sd b) Q

theorem wp_cvt (d : Dev nD) (sd : Side) (b : Fin 8) (Q : PUnit → sProp 𝕄) :
    iprop(own d (faB sd) fullShare (FA m d 0 sd) ∗ ownE d (s0V sd b)
        ∗ ((own d (faB sd) fullShare (FA m d 0 sd) ∗ own d (s0V sd b) fullShare (C0 m d sd b)) -∗ Q ⟨⟩))
      ⊢ WP d (cvt (F := F) sd b) Q := by
  unfold cvt ownE
  simp only [Prog.lift, Prog.bind_op, Prog.bind_ret, Prog.pure_eq_ret]
  iintro ⟨Hf, ⟨%X, Hs⟩, Hk⟩
  iapply (wp_ldF m d 0 sd b)
  isplitl [Hf]; · iexact Hf
  iintro Hf
  iapply (wp_ldS d (s0M sd) (rS0 b) (fun _ => rfl))
  isplitl [Hs]; · iexact Hs
  iintro Hs
  iapply (wp_stS d (s0M sd) (rS0 b) (fun _ => rfl))
  isplitl [Hs]; · iexact Hs
  iintro Hs
  iapply wp_done
  iapply Hk
  isplitl [Hf]; · iexact Hf
  iexact Hs

theorem wp_acc (d : Dev nD) (j : Fin 4) (sd : Side) (s : Fin 3) (b : Fin 8) (Y : Vec F S1x512x128 .bf16) (Q : PUnit → sProp 𝕄) :
    iprop(own d (faB sd) fullShare (FA m d j sd) ∗ own d (cmB sd s b) fullShare Y
        ∗ ((own d (faB sd) fullShare (FA m d j sd) ∗ own d (cmB sd s b) fullShare (ac m d j sd b Y)) -∗ Q ⟨⟩))
      ⊢ WP d (acc (F := F) sd s b) Q := by
  unfold acc
  simp only [Prog.lift, Prog.bind_op, Prog.bind_ret, Prog.pure_eq_ret]
  iintro ⟨Hf, Hs, Hk⟩
  iapply (wp_ldF m d j sd b)
  isplitl [Hf]; · iexact Hf
  iintro Hf
  iapply (wp_ldS d (commM sd) (rCm s b) (fun _ => rfl))
  isplitl [Hs]; · iexact Hs
  iintro Hs
  iapply (wp_ldS d (commM sd) (rCm s b) (fun _ => rfl))
  isplitl [Hs]; · iexact Hs
  iintro Hs
  iapply (wp_stS d (commM sd) (rCm s b) (fun _ => rfl))
  isplitl [Hs]; · iexact Hs
  iintro Hs
  iapply wp_done
  iapply Hk
  isplitl [Hf]; · iexact Hf
  iexact Hs

theorem wp_fin (d : Dev nD) (sd : Side) (b : Fin 8) (Q : PUnit → sProp 𝕄) :
    iprop(own d (faB sd) fullShare (FA m d 3 sd) ∗ own d (cmB sd 2 b) fullShare (RR m d 2 b sd) ∗ ownE d (hV d sd.hf b)
        ∗ ((own d (faB sd) fullShare (FA m d 3 sd) ∗ ownE d (cmB sd 2 b) ∗ own d (hV d sd.hf b) fullShare (OB m d sd b)) -∗ Q ⟨⟩))
      ⊢ WP d (fin (F := F) d sd b) Q := by
  unfold fin
  simp only [Prog.lift, Prog.bind_op, Prog.bind_ret, Prog.pure_eq_ret]
  iintro ⟨Hf, Hs, Ho, Hk⟩
  ihave Ho := (show (ownE d (hV d sd.hf b) : sProp 𝕄) ⊢ iprop(∃ X, own d (hV d sd.hf b) fullShare X) from .rfl) $$ Ho
  icases Ho with ⟨%X, Ho⟩
  iapply (wp_ldF m d 3 sd b)
  isplitl [Hf]; · iexact Hf
  iintro Hf
  iapply (wp_ldS d (commM sd) (rCm 2 b) (fun _ => rfl))
  isplitl [Hs]; · iexact Hs
  iintro Hs
  iapply (wp_ldS d outM (rH d sd.hf b) (fun _ => rfl))
  isplitl [Ho]; · iexact Ho
  iintro Ho
  iapply (wp_stS d outM (rH d sd.hf b) (fun _ => rfl))
  isplitl [Ho]; · iexact Ho
  iintro Ho
  iapply wp_done
  iapply Hk
  isplitl [Hf]; · iexact Hf
  isplitl [Hs]; · iapply own_ownE; iexact Hs
  iexact Ho

/-- The own column halves, from the ring's number. -/
theorem col_own : ∀ d : Dev nD, colH d .ownLo = 256 * (d.val / 4) ∧ colH d .ownHi = 256 * (d.val / 4) + 128 := by decide +kernel

/-- A ring's half of the own quarter is the result there. -/
theorem OB_eq (d : Dev nD) (sd : Side) (b : Fin 8) : OB m d sd b = fun i => OUT m d ((rH d sd.hf b).emb i) := by
  funext i
  have h0 : (i 0).val < 512 := (i 0).isLt
  have h1 : (i 1).val < 128 := (i 1).isLt
  obtain ⟨hlo, hhi⟩ := col_own d
  have hc : colH d sd.hf = 256 * (d.val / 4) + 128 * sd.ix := by
    cases sd
    · exact hlo
    · exact hhi
  have e0 : ((rH d sd.hf b).emb i 0).val = 512 * b.val + (i 0).val := ValueKit.rect_emb_unit_val _ _ _ _ _
  have e1 : ((rH d sd.hf b).emb i 1).val = 256 * (d.val / 4) + 128 * sd.ix + (i 1).val := (ValueKit.rect_emb_unit_val _ _ _ _ _).trans (by rw [← hc]; rfl)
  have hix : sd.ix < 2 := by cases sd <;> decide
  unfold OUT
  have hs : sideOf ((rH d sd.hf b).emb i 1).val = sd := by
    rw [e1]
    have : (256 * (d.val / 4) + 128 * sd.ix + (i 1).val) / 128 % 2 = sd.ix := by omega
    unfold sideOf
    rw [this]
    cases sd <;> rfl
  have hdv : ∀ (k : Nat) (hk : k < 4), k = d.val / 4 → dv d k hk = d := fun k hk h => Fin.ext (by show 4 * k + d.val % 4 = d.val; omega)
  rw [hs, hdv _ _ (by rw [e1]; omega)]
  have hb : ∀ (n : ℕ) (hn : n < 8), n = b.val → (⟨n, hn⟩ : Fin 8) = b := fun n hn h => Fin.ext h
  rw [hb _ _ (by rw [e0]; omega)]
  congr 1
  funext a
  fin_cases a
  · exact Fin.ext (by show (i 0).val = ((rH d sd.hf b).emb i 0).val % 512; rw [e0]; omega)
  · exact Fin.ext (by show (i 1).val = ((rH d sd.hf b).emb i 1).val % 128; rw [e1]; omega)

end Cert.KernelIdeal.Body

end
-- ==== Proof.Ideal.Loops.lean ====
/-
  The body's loops over the eight row blocks: what each takes from a core and leaves it with.
-/
module

public import proofs.«01_k».proof.Proof.Ideal.Steps

@[expose] public section

set_option synthInstance.maxSize 4096
set_option maxRecDepth 20000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-! ### Sequencing -/

theorem wp_seq (d : Dev nD) (p q : Pg F PUnit) (Q : PUnit → sProp 𝕄) :
    WP d p (fun _ => WP d q Q) ⊢ WP d (p >>= fun _ => q) Q := by
  unfold WP
  rw [wp_bind]

/-- A separate `Φ b` for each row block. -/
abbrev all8 (Φ : Fin 8 → sProp 𝕄) : sProp 𝕄 := bigSep Finset.univ Φ

theorem all8_eq (Φ : Fin 8 → sProp 𝕄) : all8 Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A loop over the row blocks, from what each pass does: pass `b` turns `A b` and the loop's state `I b` into `B b` and `I (b+1)`. -/
theorem wp_forB (d : Dev nD) (f : Fin 8 → Pg F PUnit) (A B : Fin 8 → sProp 𝕄) (I : ℕ → sProp 𝕄)
    (h : ∀ (b : Fin 8) (Q : PUnit → sProp 𝕄), iprop(rcs m K ∗ A b ∗ I b.val ∗ ((B b ∗ I (b.val + 1)) -∗ Q ⟨⟩)) ⊢ WP d (f b) Q)
    (Q : PUnit → sProp 𝕄) :
    iprop(rcs m K ∗ all8 A ∗ I 0 ∗ ((all8 B ∗ I 8) -∗ Q ⟨⟩)) ⊢ WP d (forB f) Q := by
  have h' : ∀ (b : Fin 8) (n n' : ℕ) (hn : b.val = n) (hn' : b.val + 1 = n') (Q : PUnit → sProp 𝕄),
      iprop(rcs m K ∗ A b ∗ I n ∗ ((B b ∗ I n') -∗ Q ⟨⟩)) ⊢ WP d (f b) Q := by
    intro b n n' hn hn' Q; subst hn; subst hn'; exact h b Q
  rw [all8_eq, all8_eq]
  unfold forB
  iintro ⟨#HR, ⟨A0, A1, A2, A3, A4, A5, A6, A7⟩, HI, Hk⟩
  iapply wp_seq; iapply (h' 0 0 1 rfl rfl _); isplitr; · iexact HR
  isplitl [A0]; · iexact A0
  isplitl [HI]; · iexact HI
  iintro ⟨B0, HI⟩
  iapply wp_seq; iapply (h' 1 1 2 rfl rfl _); isplitr; · iexact HR
  isplitl [A1]; · iexact A1
  isplitl [HI]; · iexact HI
  iintro ⟨B1, HI⟩
  iapply wp_seq; iapply (h' 2 2 3 rfl rfl _); isplitr; · iexact HR
  isplitl [A2]; · iexact A2
  isplitl [HI]; · iexact HI
  iintro ⟨B2, HI⟩
  iapply wp_seq; iapply (h' 3 3 4 rfl rfl _); isplitr; · iexact HR
  isplitl [A3]; · iexact A3
  isplitl [HI]; · iexact HI
  iintro ⟨B3, HI⟩
  iapply wp_seq; iapply (h' 4 4 5 rfl rfl _); isplitr; · iexact HR
  isplitl [A4]; · iexact A4
  isplitl [HI]; · iexact HI
  iintro ⟨B4, HI⟩
  iapply wp_seq; iapply (h' 5 5 6 rfl rfl _); isplitr; · iexact HR
  isplitl [A5]; · iexact A5
  isplitl [HI]; · iexact HI
  iintro ⟨B5, HI⟩
  iapply wp_seq; iapply (h' 6 6 7 rfl rfl _); isplitr; · iexact HR
  isplitl [A6]; · iexact A6
  isplitl [HI]; · iexact HI
  iintro ⟨B6, HI⟩
  iapply (h' 7 7 8 rfl rfl _); isplitr; · iexact HR
  isplitl [A7]; · iexact A7
  isplitl [HI]; · iexact HI
  iintro ⟨B7, HI⟩
  iapply Hk
  isplitr [HI]
  · iframe
  iexact HI

/-! ### What the loops take -/

/-- The two tokens of a transfer. -/
def TK (d : Dev nD) (t : Tr) : sProp 𝕄 := iprop(tok d (cS t) ∗ tok (tgt d t) (cR t))
/-- A transfer's arrival: the core's turn at its cell and the cell's credit. -/
def RC (d : Dev nD) (t : Tr) : sProp 𝕄 := iprop(at0 d (cR t) ∗ crd d (cR t))
/-- The staged columns of load `j`, both sides. -/
def FA2 (d : Dev nD) (j : Fin 4) : sProp 𝕄 := iprop(own d (faB .r) fullShare (FA m d j .r) ∗ own d (faB .l) fullShare (FA m d j .l))

theorem SD_intro (d : Dev nD) (s : Fin 3) (b : Fin 8) (sd : Side) :
    iprop(TK d (.ring s b sd) ∗ ownE (F := F) (nx d sd) (cmB sd s b)) ⊢ SD d s b sd := by
  unfold TK SD
  iintro ⟨⟨H1, H2⟩, H3⟩; iframe
theorem SX_intro (d : Dev nD) (b : Fin 8) (a : Ax) :
    iprop(TK d (.ag0 b a) ∗ ownE (F := F) (ax d a) (wV (ax d a) a.q b)) ⊢ SX d b a := by
  unfold TK SX
  iintro ⟨⟨H1, H2⟩, H3⟩; iframe
theorem SY_intro (d : Dev nD) (b : Fin 8) (a : Ax) :
    iprop(TK d (.ag1 b a) ∗ ownE (F := F) (ax d a) (hV (ax d a) a.d1 b)) ⊢ SY d b a := by
  unfold TK SY
  iintro ⟨⟨H1, H2⟩, H3⟩; iframe

/-- The first chunk rounded and sent. -/
theorem wp_loop0 (d : Dev nD) (Q : PUnit → sProp 𝕄) :
    iprop(rcs m K ∗ (all8 (fun b => TK (F := F) d (.ring 0 b .r)) ∗ all8 (fun b => ownE (F := F) (nx d .r) (cmB .r 0 b)) ∗ all8 (fun b => ownE (F := F) d (s0V .r b))
          ∗ all8 (fun b => TK (F := F) d (.ring 0 b .l)) ∗ all8 (fun b => ownE (F := F) (nx d .l) (cmB .l 0 b)) ∗ all8 (fun b => ownE (F := F) d (s0V .l b)))
        ∗ (OW d (Ow d 0) ∗ FA2 m d 0)
        ∗ (((all8 (fun b => crd (F := F) d (cS (.ring 0 b .r))) ∗ all8 (fun b => crd (F := F) d (cS (.ring 0 b .l)))) ∗ (OW d (Ow d 16) ∗ FA2 m d 0)) -∗ Q ⟨⟩))
      ⊢ WP d (forB (st0 d)) Q := by
  have h := wp_forB m K d (st0 d)
    (fun b => iprop(TK (F := F) d (.ring 0 b .r) ∗ ownE (F := F) (nx d .r) (cmB .r 0 b) ∗ ownE (F := F) d (s0V .r b)
          ∗ TK (F := F) d (.ring 0 b .l) ∗ ownE (F := F) (nx d .l) (cmB .l 0 b) ∗ ownE (F := F) d (s0V .l b)))
    (fun b => iprop(crd (F := F) d (cS (.ring 0 b .r)) ∗ crd (F := F) d (cS (.ring 0 b .l))))
    (fun n => iprop(OW d (Ow d (2 * n)) ∗ FA2 m d 0)) ?_ Q
  · simp only [all8, bigSep_sep'] at h
    exact h
  intro b Q
  unfold FA2 st0
  iintro ⟨#HR, ⟨Hk1, Hd1, Hs1, Hk2, Hd2, Hs2⟩, ⟨HO, Hf1, Hf2⟩, Hk⟩
  iapply wp_seq; iapply (wp_cvt m d .r b)
  isplitl [Hf1]; · iexact Hf1
  isplitl [Hs1]; · iexact Hs1
  iintro ⟨Hf1, Hs1⟩
  iapply wp_seq; iapply (wp_snd m K d .r 0 b (2 * b.val) (by simp [Side.ix]))
  isplitr; · iexact HR
  isplitl [HO]; · iexact HO
  isplitl [Hk1 Hd1]; · iapply SD_intro; iframe
  isplitl [Hs1]; · iexact Hs1
  iintro ⟨HO, Hc1⟩
  iapply wp_seq; iapply (wp_cvt m d .l b)
  isplitl [Hf2]; · iexact Hf2
  isplitl [Hs2]; · iexact Hs2
  iintro ⟨Hf2, Hs2⟩
  iapply (wp_snd m K d .l 0 b (2 * b.val + 1) (by simp [Side.ix]))
  isplitr; · iexact HR
  isplitl [HO]; · iexact HO
  isplitl [Hk2 Hd2]; · iapply SD_intro; iframe
  isplitl [Hs2]; · iexact Hs2
  iintro ⟨HO, Hc2⟩
  iapply Hk
  isplitl [Hc1 Hc2]; · iframe
  isplitl [HO]; · iexact HO
  iframe

/-- A hop before the last: what arrived plus the own block, sent on. -/
theorem wp_loop1 (d : Dev nD) (s s' : Fin 3) (j : Fin 4) (hs : s'.val = s.val + 1)
    (hown : ∀ sd b, (own d (cmB sd s b) fullShare (ac m d j sd b (RR m d s b sd)) : sProp 𝕄) ⊢ own d (srcV sd s' b) fullShare (CC m s' d sd b))
    (Q : PUnit → sProp 𝕄) :
    iprop(rcs m K ∗ (all8 (fun b => RC (F := F) d (.ring s b .r)) ∗ all8 (fun b => RC (F := F) d (.ring s b .l)) ∗ all8 (fun b => TK (F := F) d (.ring s' b .r)) ∗ all8 (fun b => ownE (F := F) (nx d .r) (cmB .r s' b)) ∗ all8 (fun b => TK (F := F) d (.ring s' b .l)) ∗ all8 (fun b => ownE (F := F) (nx d .l) (cmB .l s' b)))
        ∗ (OW d (Ow d (16 * s'.val)) ∗ FA2 m d j)
        ∗ (((all8 (fun b => sv0 (F := F) d (cR (.ring s b .r))) ∗ all8 (fun b => sv0 (F := F) d (cR (.ring s b .l))) ∗ all8 (fun b => crd (F := F) d (cS (.ring s' b .r))) ∗ all8 (fun b => crd (F := F) d (cS (.ring s' b .l)))) ∗ (OW d (Ow d (16 * s'.val + 16)) ∗ FA2 m d j)) -∗ Q ⟨⟩))
      ⊢ WP d (forB (st1 d s s')) Q := by
  have h := wp_forB m K d (st1 d s s')
    (fun b => iprop(RC (F := F) d (.ring s b .r) ∗ RC (F := F) d (.ring s b .l) ∗ TK (F := F) d (.ring s' b .r) ∗ ownE (F := F) (nx d .r) (cmB .r s' b) ∗ TK (F := F) d (.ring s' b .l) ∗ ownE (F := F) (nx d .l) (cmB .l s' b)))
    (fun b => iprop(sv0 (F := F) d (cR (.ring s b .r)) ∗ sv0 (F := F) d (cR (.ring s b .l)) ∗ crd (F := F) d (cS (.ring s' b .r)) ∗ crd (F := F) d (cS (.ring s' b .l))))
    (fun n => iprop(OW d (Ow d (16 * s'.val + 2 * n)) ∗ FA2 m d j)) ?_ Q
  · simp only [all8, bigSep_sep'] at h
    exact h
  intro b Q
  unfold FA2 st1 RC
  iintro ⟨#HR, ⟨⟨H1a, H1c⟩, ⟨H2a, H2c⟩, Hk1, Hd1, Hk2, Hd2⟩, ⟨HO, Hf1, Hf2⟩, Hk⟩
  iapply wp_seq; iapply (wp_rcv m K d .r s b (16 * s'.val + 2 * b.val) (by omega))
  isplitr; · iexact HR
  isplitl [HO]; · iexact HO
  isplitl [H1a]; · iexact H1a
  isplitl [H1c]; · iexact H1c
  iintro ⟨HO, Hv1, Hb1⟩
  iapply wp_seq; iapply (wp_rcv m K d .l s b (16 * s'.val + 2 * b.val) (by omega))
  isplitr; · iexact HR
  isplitl [HO]; · iexact HO
  isplitl [H2a]; · iexact H2a
  isplitl [H2c]; · iexact H2c
  iintro ⟨HO, Hv2, Hb2⟩
  iapply wp_seq; iapply (wp_acc m d j .r s b _)
  isplitl [Hf1]; · iexact Hf1
  isplitl [Hb1]; · iexact Hb1
  iintro ⟨Hf1, Hb1⟩
  iapply wp_seq; iapply (wp_snd m K d .r s' b (16 * s'.val + 2 * b.val) (by simp [Side.ix]))
  isplitr; · iexact HR
  isplitl [HO]; · iexact HO
  isplitl [Hk1 Hd1]; · iapply SD_intro; iframe
  isplitl [Hb1]; · iapply (hown .r b); iexact Hb1
  iintro ⟨HO, Hc1⟩
  iapply wp_seq; iapply (wp_acc m d j .l s b _)
  isplitl [Hf2]; · iexact Hf2
  isplitl [Hb2]; · iexact Hb2
  iintro ⟨Hf2, Hb2⟩
  iapply (wp_snd m K d .l s' b (16 * s'.val + 2 * b.val + 1) (by simp [Side.ix]))
  isplitr; · iexact HR
  isplitl [HO]; · iexact HO
  isplitl [Hk2 Hd2]; · iapply SD_intro; iframe
  isplitl [Hb2]; · iapply (hown .l b); iexact Hb2
  iintro ⟨HO, Hc2⟩
  iapply Hk
  isplitr [HO Hf1 Hf2]; · iframe
  isplitl [HO]; · iexact HO
  iframe

/-- The two rings' halves of the own quarter, as two shares of the quarter. -/
theorem own_join (d : Dev nD) (b : Fin 8) :
    iprop(own d (hV d Side.r.hf b) fullShare (OB m d .r b) ∗ own d (hV d Side.l.hf b) fullShare (OB m d .l b))
      ⊢ iprop(outW m d .own b Ax.x.sh ∗ outW m d .own b Ax.y.sh) := by
  rw [OB_eq, OB_eq]
  exact (out_halves d .own b fullShare (OUT m d)).2.trans (own_halves d (wV d .own b) fullShare _).1

/-- The last hop, into the result, and the first phase of the all-gather. -/
theorem wp_loop2 (d : Dev nD) (Q : PUnit → sProp 𝕄) :
    iprop(rcs m K ∗ (all8 (fun b => RC (F := F) d (.ring 2 b .r)) ∗ all8 (fun b => RC (F := F) d (.ring 2 b .l)) ∗ all8 (fun b => ownE (F := F) d (hV d .ownLo b)) ∗ all8 (fun b => ownE (F := F) d (hV d .ownHi b)) ∗ all8 (fun b => TK (F := F) d (.ag0 b .x)) ∗ all8 (fun b => ownE (F := F) (ax d .x) (wV (ax d .x) .qx b)) ∗ all8 (fun b => TK (F := F) d (.ag0 b .y)) ∗ all8 (fun b => ownE (F := F) (ax d .y) (wV (ax d .y) .qy b)))
        ∗ (OW d (Ow d 48) ∗ FA2 m d 3)
        ∗ (((all8 (fun b => sv0 (F := F) d (cR (.ring 2 b .r))) ∗ all8 (fun b => sv0 (F := F) d (cR (.ring 2 b .l))) ∗ all8 (fun b => ownE (F := F) d (cmB .r 2 b)) ∗ all8 (fun b => ownE (F := F) d (cmB .l 2 b)) ∗ all8 (fun b => crd (F := F) d (cS (.ag0 b .x))) ∗ all8 (fun b => crd (F := F) d (cS (.ag0 b .y)))) ∗ (OW d (Ow d 64) ∗ FA2 m d 3)) -∗ Q ⟨⟩))
      ⊢ WP d (forB (st2 d)) Q := by
  have h := wp_forB m K d (st2 d)
    (fun b => iprop(RC (F := F) d (.ring 2 b .r) ∗ RC (F := F) d (.ring 2 b .l) ∗ ownE (F := F) d (hV d .ownLo b) ∗ ownE (F := F) d (hV d .ownHi b) ∗ TK (F := F) d (.ag0 b .x) ∗ ownE (F := F) (ax d .x) (wV (ax d .x) .qx b) ∗ TK (F := F) d (.ag0 b .y) ∗ ownE (F := F) (ax d .y) (wV (ax d .y) .qy b)))
    (fun b => iprop(sv0 (F := F) d (cR (.ring 2 b .r)) ∗ sv0 (F := F) d (cR (.ring 2 b .l)) ∗ ownE (F := F) d (cmB .r 2 b) ∗ ownE (F := F) d (cmB .l 2 b) ∗ crd (F := F) d (cS (.ag0 b .x)) ∗ crd (F := F) d (cS (.ag0 b .y))))
    (fun n => iprop(OW d (Ow d (48 + 2 * n)) ∗ FA2 m d 3)) ?_ Q
  · simp only [all8, bigSep_sep'] at h
    exact h
  intro b Q
  unfold FA2 st2 RC
  iintro ⟨#HR, ⟨⟨H1a, H1c⟩, ⟨H2a, H2c⟩, Ho1, Ho2, Hk1, Hd1, Hk2, Hd2⟩, ⟨HO, Hf1, Hf2⟩, Hk⟩
  iapply wp_seq; iapply (wp_rcv m K d .r 2 b (48 + 2 * b.val) (by show 16 * (2 + 1) ≤ _; omega))
  isplitr; · iexact HR
  isplitl [HO]; · iexact HO
  isplitl [H1a]; · iexact H1a
  isplitl [H1c]; · iexact H1c
  iintro ⟨HO, Hv1, Hb1⟩
  iapply wp_seq; iapply (wp_rcv m K d .l 2 b (48 + 2 * b.val) (by show 16 * (2 + 1) ≤ _; omega))
  isplitr; · iexact HR
  isplitl [HO]; · iexact HO
  isplitl [H2a]; · iexact H2a
  isplitl [H2c]; · iexact H2c
  iintro ⟨HO, Hv2, Hb2⟩
  iapply wp_seq; iapply (wp_fin m d .r b)
  isplitl [Hf1]; · iexact Hf1
  isplitl [Hb1]; · iexact Hb1
  isplitl [Ho1]; · iexact Ho1
  iintro ⟨Hf1, Hb1, Ho1⟩
  iapply wp_seq; iapply (wp_fin m d .l b)
  isplitl [Hf2]; · iexact Hf2
  isplitl [Hb2]; · iexact Hb2
  isplitl [Ho2]; · iexact Ho2
  iintro ⟨Hf2, Hb2, Ho2⟩
  ihave Ho := (own_join m d b) $$ [Ho1 Ho2]
  · iframe
  icases Ho with ⟨Ho1, Ho2⟩
  iapply wp_seq; iapply (wp_ag0 m K d .x b (48 + 2 * b.val) (by simp [Ax.ix]))
  isplitr; · iexact HR
  isplitl [HO]; · iexact HO
  isplitl [Hk1 Hd1]; · iapply SX_intro; iframe
  isplitl [Ho1]; · iexact Ho1
  iintro ⟨HO, Hc1⟩
  iapply (wp_ag0 m K d .y b (48 + 2 * b.val + 1) (by simp [Ax.ix]))
  isplitr; · iexact HR
  isplitl [HO]; · iexact HO
  isplitl [Hk2 Hd2]; · iapply SX_intro; iframe
  isplitl [Ho2]; · iexact Ho2
  iintro ⟨HO, Hc2⟩
  iapply Hk
  isplitr [HO Hf1 Hf2]; · iframe
  isplitl [HO]; · iexact HO
  iframe

/-- The x neighbour's quarter arrives; its low half is sent on along y. -/
theorem wp_gather1 (d : Dev nD) (Q : PUnit → sProp 𝕄) :
    iprop(rcs m K ∗ (all8 (fun b => RC (F := F) d (.ag0 b .x)) ∗ all8 (fun b => TK (F := F) d (.ag1 b .y)) ∗ all8 (fun b => ownE (F := F) (ax d .y) (hV (ax d .y) .qdLo b)))
        ∗ (OW d (Ow d 64))
        ∗ (((all8 (fun b => sv0 (F := F) d (cR (.ag0 b .x))) ∗ all8 (fun b => outH m d .qxHi b fullShare) ∗ all8 (fun b => crd (F := F) d (cS (.ag1 b .y)))) ∗ (OW d (Ow d 72))) -∗ Q ⟨⟩))
      ⊢ WP d (forB (fun b => do ag0r d .x b; ag1 d .y b)) Q := by
  have h := wp_forB m K d (fun b => do ag0r d .x b; ag1 d .y b)
    (fun b => iprop(RC (F := F) d (.ag0 b .x) ∗ TK (F := F) d (.ag1 b .y) ∗ ownE (F := F) (ax d .y) (hV (ax d .y) .qdLo b)))
    (fun b => iprop(sv0 (F := F) d (cR (.ag0 b .x)) ∗ outH m d .qxHi b fullShare ∗ crd (F := F) d (cS (.ag1 b .y))))
    (fun n => iprop(OW d (Ow d (64 + n)))) ?_ Q
  · simp only [all8, bigSep_sep'] at h
    exact h
  intro b Q
  unfold RC
  iintro ⟨#HR, ⟨⟨Ha, Hc⟩, Hk1, Hd1⟩, HO, Hk⟩
  iapply wp_seq; iapply (wp_ag0r m K d .x b (64 + b.val) (by omega))
  isplitr; · iexact HR
  isplitl [HO]; · iexact HO
  isplitl [Ha]; · iexact Ha
  isplitl [Hc]; · iexact Hc
  iintro ⟨HO, Hv, Hb⟩
  ihave Hb := (out_halves d .qx b fullShare (OUT m d)).1 $$ Hb
  icases Hb with ⟨Hs, Hh⟩
  iapply (wp_ag1 m K d .y b (64 + b.val) (by simp [Ax.ix]))
  isplitr; · iexact HR
  isplitl [HO]; · iexact HO
  isplitl [Hk1 Hd1]; · iapply SY_intro; iframe
  isplitl [Hs]; · iexact Hs
  iintro ⟨HO, Hcs⟩
  iapply Hk
  isplitr [HO]; · iframe
  iexact HO

/-- The y neighbour's quarter arrives; its high half is sent on along x. -/
theorem wp_gather2 (d : Dev nD) (Q : PUnit → sProp 𝕄) :
    iprop(rcs m K ∗ (all8 (fun b => RC (F := F) d (.ag0 b .y)) ∗ all8 (fun b => TK (F := F) d (.ag1 b .x)) ∗ all8 (fun b => ownE (F := F) (ax d .x) (hV (ax d .x) .qdHi b)))
        ∗ (OW d (Ow d 72))
        ∗ (((all8 (fun b => sv0 (F := F) d (cR (.ag0 b .y))) ∗ all8 (fun b => outH m d .qyLo b fullShare) ∗ all8 (fun b => crd (F := F) d (cS (.ag1 b .x)))) ∗ (OW d (Ow d 80))) -∗ Q ⟨⟩))
      ⊢ WP d (forB (fun b => do ag0r d .y b; ag1 d .x b)) Q := by
  have h := wp_forB m K d (fun b => do ag0r d .y b; ag1 d .x b)
    (fun b => iprop(RC (F := F) d (.ag0 b .y) ∗ TK (F := F) d (.ag1 b .x) ∗ ownE (F := F) (ax d .x) (hV (ax d .x) .qdHi b)))
    (fun b => iprop(sv0 (F := F) d (cR (.ag0 b .y)) ∗ outH m d .qyLo b fullShare ∗ crd (F := F) d (cS (.ag1 b .x))))
    (fun n => iprop(OW d (Ow d (72 + n)))) ?_ Q
  · simp only [all8, bigSep_sep'] at h
    exact h
  intro b Q
  unfold RC
  iintro ⟨#HR, ⟨⟨Ha, Hc⟩, Hk1, Hd1⟩, HO, Hk⟩
  iapply wp_seq; iapply (wp_ag0r m K d .y b (72 + b.val) (by omega))
  isplitr; · iexact HR
  isplitl [HO]; · iexact HO
  isplitl [Ha]; · iexact Ha
  isplitl [Hc]; · iexact Hc
  iintro ⟨HO, Hv, Hb⟩
  ihave Hb := (out_halves d .qy b fullShare (OUT m d)).1 $$ Hb
  icases Hb with ⟨Hh, Hs⟩
  iapply (wp_ag1 m K d .x b (72 + b.val) (by simp [Ax.ix]))
  isplitr; · iexact HR
  isplitl [HO]; · iexact HO
  isplitl [Hk1 Hd1]; · iapply SY_intro; iframe
  isplitl [Hs]; · iexact Hs
  iintro ⟨HO, Hcs⟩
  iapply Hk
  isplitr [HO]; · iframe
  iexact HO

/-- The diagonal quarter's halves arrive. -/
theorem wp_gather3 (d : Dev nD) (Q : PUnit → sProp 𝕄) :
    iprop(rcs m K ∗ (all8 (fun b => RC (F := F) d (.ag1 b .y)) ∗ all8 (fun b => RC (F := F) d (.ag1 b .x)))
        ∗ (OW d (Ow d 80))
        ∗ (((all8 (fun b => sv0 (F := F) d (cR (.ag1 b .y))) ∗ all8 (fun b => outH m d .qdLo b fullShare) ∗ all8 (fun b => sv0 (F := F) d (cR (.ag1 b .x))) ∗ all8 (fun b => outH m d .qdHi b fullShare)) ∗ (OW d (Ow d 80))) -∗ Q ⟨⟩))
      ⊢ WP d (forB (fun b => do ag1r d .y b; ag1r d .x b)) Q := by
  have h := wp_forB m K d (fun b => do ag1r d .y b; ag1r d .x b)
    (fun b => iprop(RC (F := F) d (.ag1 b .y) ∗ RC (F := F) d (.ag1 b .x)))
    (fun b => iprop(sv0 (F := F) d (cR (.ag1 b .y)) ∗ outH m d .qdLo b fullShare ∗ sv0 (F := F) d (cR (.ag1 b .x)) ∗ outH m d .qdHi b fullShare))
    (fun n => iprop(OW d (Ow d 80))) ?_ Q
  · simp only [all8, bigSep_sep'] at h
    exact h
  intro b Q
  unfold RC
  iintro ⟨#HR, ⟨⟨H1a, H1c⟩, ⟨H2a, H2c⟩⟩, HO, Hk⟩
  iapply wp_seq; iapply (wp_ag1r m K d .y b)
  isplitr; · iexact HR
  isplitl [HO]; · iexact HO
  isplitl [H1a]; · iexact H1a
  isplitl [H1c]; · iexact H1c
  iintro ⟨HO, Hv1, Hb1⟩
  iapply (wp_ag1r m K d .x b)
  isplitr; · iexact HR
  isplitl [HO]; · iexact HO
  isplitl [H2a]; · iexact H2a
  isplitl [H2c]; · iexact H2c
  iintro ⟨HO, Hv2, Hb2⟩
  iapply Hk
  isplitr [HO]; · iframe
  iexact HO

/-- The sends of hop `s` have left. -/
theorem wp_drain0 (d : Dev nD) (s : Fin 3) (Q : PUnit → sProp 𝕄) :
    iprop(rcs m K ∗ (all8 (fun b => at0 (F := F) d (cS (.ring s b .r))) ∗ all8 (fun b => crd (F := F) d (cS (.ring s b .r))) ∗ all8 (fun b => at0 (F := F) d (cS (.ring s b .l))) ∗ all8 (fun b => crd (F := F) d (cS (.ring s b .l))))
        ∗ (OW d (Ow d 80))
        ∗ (((all8 (fun b => sv0 (F := F) d (cS (.ring s b .r))) ∗ all8 (fun b => ownE (F := F) d (srcV .r s b)) ∗ all8 (fun b => sv0 (F := F) d (cS (.ring s b .l))) ∗ all8 (fun b => ownE (F := F) d (srcV .l s b))) ∗ (OW d (Ow d 80))) -∗ Q ⟨⟩))
      ⊢ WP d (forB (fun b => do sndw .r s b; sndw .l s b)) Q := by
  have h := wp_forB m K d (fun b => do sndw .r s b; sndw .l s b)
    (fun b => iprop(at0 (F := F) d (cS (.ring s b .r)) ∗ crd (F := F) d (cS (.ring s b .r)) ∗ at0 (F := F) d (cS (.ring s b .l)) ∗ crd (F := F) d (cS (.ring s b .l))))
    (fun b => iprop(sv0 (F := F) d (cS (.ring s b .r)) ∗ ownE (F := F) d (srcV .r s b) ∗ sv0 (F := F) d (cS (.ring s b .l)) ∗ ownE (F := F) d (srcV .l s b)))
    (fun n => iprop(OW d (Ow d 80))) ?_ Q
  · simp only [all8, bigSep_sep'] at h
    exact h
  intro b Q
  iintro ⟨#HR, ⟨H1a, H1c, H2a, H2c⟩, HO, Hk⟩
  iapply wp_seq; iapply (wp_sndw m K d .r s b)
  isplitr; · iexact HR
  isplitl [HO]; · iexact HO
  isplitl [H1a]; · iexact H1a
  isplitl [H1c]; · iexact H1c
  iintro ⟨HO, Hv1, Hb1⟩
  iapply (wp_sndw m K d .l s b)
  isplitr; · iexact HR
  isplitl [HO]; · iexact HO
  isplitl [H2a]; · iexact H2a
  isplitl [H2c]; · iexact H2c
  iintro ⟨HO, Hv2, Hb2⟩
  iapply Hk
  isplitr [HO]; · iframe
  iexact HO

/-- The sends of the own quarter have left. -/
theorem wp_drain1 (d : Dev nD) (Q : PUnit → sProp 𝕄) :
    iprop(rcs m K ∗ (all8 (fun b => at0 (F := F) d (cS (.ag0 b .x))) ∗ all8 (fun b => crd (F := F) d (cS (.ag0 b .x))) ∗ all8 (fun b => at0 (F := F) d (cS (.ag0 b .y))) ∗ all8 (fun b => crd (F := F) d (cS (.ag0 b .y))))
        ∗ (OW d (Ow d 80))
        ∗ (((all8 (fun b => sv0 (F := F) d (cS (.ag0 b .x))) ∗ all8 (fun b => outW m d .own b Ax.x.sh) ∗ all8 (fun b => sv0 (F := F) d (cS (.ag0 b .y))) ∗ all8 (fun b => outW m d .own b Ax.y.sh)) ∗ (OW d (Ow d 80))) -∗ Q ⟨⟩))
      ⊢ WP d (forB (fun b => do ag0s d .x b; ag0s d .y b)) Q := by
  have h := wp_forB m K d (fun b => do ag0s d .x b; ag0s d .y b)
    (fun b => iprop(at0 (F := F) d (cS (.ag0 b .x)) ∗ crd (F := F) d (cS (.ag0 b .x)) ∗ at0 (F := F) d (cS (.ag0 b .y)) ∗ crd (F := F) d (cS (.ag0 b .y))))
    (fun b => iprop(sv0 (F := F) d (cS (.ag0 b .x)) ∗ outW m d .own b Ax.x.sh ∗ sv0 (F := F) d (cS (.ag0 b .y)) ∗ outW m d .own b Ax.y.sh))
    (fun n => iprop(OW d (Ow d 80))) ?_ Q
  · simp only [all8, bigSep_sep'] at h
    exact h
  intro b Q
  iintro ⟨#HR, ⟨H1a, H1c, H2a, H2c⟩, HO, Hk⟩
  iapply wp_seq; iapply (wp_ag0s m K d .x b)
  isplitr; · iexact HR
  isplitl [HO]; · iexact HO
  isplitl [H1a]; · iexact H1a
  isplitl [H1c]; · iexact H1c
  iintro ⟨HO, Hv1, Hb1⟩
  iapply (wp_ag0s m K d .y b)
  isplitr; · iexact HR
  isplitl [HO]; · iexact HO
  isplitl [H2a]; · iexact H2a
  isplitl [H2c]; · iexact H2c
  iintro ⟨HO, Hv2, Hb2⟩
  iapply Hk
  isplitr [HO]; · iframe
  iexact HO

/-- The halves sent on along an axis have left. -/
theorem wp_drain2 (d : Dev nD) (a : Ax) (Q : PUnit → sProp 𝕄) :
    iprop(rcs m K ∗ (all8 (fun b => at0 (F := F) d (cS (.ag1 b a))) ∗ all8 (fun b => crd (F := F) d (cS (.ag1 b a))))
        ∗ (OW d (Ow d 80))
        ∗ (((all8 (fun b => sv0 (F := F) d (cS (.ag1 b a))) ∗ all8 (fun b => outH m d a.h1 b fullShare)) ∗ (OW d (Ow d 80))) -∗ Q ⟨⟩))
      ⊢ WP d (forB (fun b => ag1s d a b)) Q := by
  have h := wp_forB m K d (fun b => ag1s d a b)
    (fun b => iprop(at0 (F := F) d (cS (.ag1 b a)) ∗ crd (F := F) d (cS (.ag1 b a))))
    (fun b => iprop(sv0 (F := F) d (cS (.ag1 b a)) ∗ outH m d a.h1 b fullShare))
    (fun n => iprop(OW d (Ow d 80))) ?_ Q
  · simp only [all8, bigSep_sep'] at h
    exact h
  intro b Q
  iintro ⟨#HR, ⟨H1a, H1c⟩, HO, Hk⟩
  iapply (wp_ag1s m K d a b)
  isplitr; · iexact HR
  isplitl [HO]; · iexact HO
  isplitl [H1a]; · iexact H1a
  isplitl [H1c]; · iexact H1c
  iintro ⟨HO, Hv1, Hb1⟩
  iapply Hk
  isplitr [HO]; · iframe
  iexact HO

end Cert.KernelIdeal.Body

end
-- ==== Proof.Ideal.Core.lean ====
/-
  The whole body on one core: from what the launch gives it to what it leaves.
-/
module

public import proofs.«01_k».proof.Proof.Ideal.Loops

@[expose] public section

set_option synthInstance.maxSize 4096
set_option maxRecDepth 20000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-! ### Families over the transfers -/

/-- A family over the rings' transfers, by hop and side. -/
abbrev R6 (Φ : Fin 3 → Side → Fin 8 → sProp 𝕄) : sProp 𝕄 :=
  iprop(all8 (Φ 0 .r) ∗ all8 (Φ 0 .l) ∗ all8 (Φ 1 .r) ∗ all8 (Φ 1 .l) ∗ all8 (Φ 2 .r) ∗ all8 (Φ 2 .l))
/-- A family over an all-gather phase's transfers, by axis. -/
abbrev A2 (Φ : Ax → Fin 8 → sProp 𝕄) : sProp 𝕄 := iprop(all8 (Φ .x) ∗ all8 (Φ .y))

theorem bigSep_side (Φ : Side → sProp 𝕄) : bigSep Finset.univ Φ = iprop(Φ .r ∗ Φ .l) :=
  bigSep_univ_eq_bigSepL [Side.r, Side.l] (by decide) (by decide) Φ
theorem bigSep_ax (Φ : Ax → sProp 𝕄) : bigSep Finset.univ Φ = iprop(Φ .x ∗ Φ .y) :=
  bigSep_univ_eq_bigSepL [Ax.x, Ax.y] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_sum {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

/-- A family over the transfers, by kind. -/
theorem bigSep_tr (Φ : Tr → sProp 𝕄) :
    bigSep Finset.univ Φ ⊣⊢ iprop(R6 (fun s sd b => Φ (.ring s b sd)) ∗ A2 (fun a b => Φ (.ag0 b a)) ∗ A2 (fun a b => Φ (.ag1 b a))) := by
  rw [bigSep_univ_equiv Tr.equiv, bigSep_sum, bigSep_sum]
  simp only [bigSep_univ_prod, bigSep_side, bigSep_ax, bigSep_fin3, bigSep_sep', R6, A2, all8, Tr.equiv, Equiv.coe_fn_mk]
  constructor
  · iintro ⟨⟨⟨H1, H3, H5⟩, H2, H4, H6⟩, ⟨H7, H8⟩, ⟨H9, H10⟩⟩; iframe
  · iintro ⟨⟨H1, H2, H3, H4, H5, H6⟩, ⟨H7, H8⟩, ⟨H9, H10⟩⟩; iframe

theorem bigSep_cm (Φ : Fin 3 × Fin 8 → sProp 𝕄) :
    bigSep Finset.univ Φ = iprop(all8 (fun b => Φ (0, b)) ∗ all8 (fun b => Φ (1, b)) ∗ all8 (fun b => Φ (2, b))) := by
  rw [bigSep_univ_prod, bigSep_fin3]

/-! ### Loads -/

/-- A load's token and the core's turn at its cell. -/
def LD (d : Dev nD) (j : Fin 4) (sd : Side) : sProp 𝕄 := iprop(tok d (cLd j sd) ∗ at0 d (cLd j sd))
/-- Some share of the operand. -/
def XX (d : Dev nD) : sProp 𝕄 := iprop(∃ q, own d xM q (xa m d))
/-- Both halves of the staging buffer. -/
def FE (d : Dev nD) : sProp 𝕄 := iprop(ownE d (faB .r) ∗ ownE d (faB .l))

theorem FA2_FE (d : Dev nD) (j : Fin 4) : FA2 m d j ⊢ FE d := by
  unfold FA2 FE
  iintro ⟨H1, H2⟩
  isplitl [H1]
  · iapply own_ownE; iexact H1
  · iapply own_ownE; iexact H2

theorem wp_ld2 (d : Dev nD) (j : Fin 4) (n : ℕ) (Q : PUnit → sProp 𝕄) :
    iprop(rcs m K ∗ (OW d (Ow d n) ∗ LD (F := F) d j .r ∗ LD (F := F) d j .l ∗ XX m d ∗ FE (F := F) d)
        ∗ ((OW d (Ow d n) ∗ sv0 (F := F) d (cLd j .r) ∗ sv0 (F := F) d (cLd j .l) ∗ XX m d ∗ FA2 m d j) -∗ Q ⟨⟩))
      ⊢ WP d (ld2 d j) Q := by
  unfold LD XX FE FA2 ld2
  iintro ⟨#HR, ⟨HO, ⟨Ht1, Ha1⟩, ⟨Ht2, Ha2⟩, HX, Hf1, Hf2⟩, Hk⟩
  iapply wp_seq; iapply (wp_ld m K d j .r)
  isplitr; · iexact HR
  isplitl [Ht1]; · iexact Ht1
  isplitl [HX]; · iexact HX
  isplitl [Hf1]; · iexact Hf1
  iintro ⟨HX, Hc1⟩
  iapply wp_seq; iapply (wp_ld m K d j .l)
  isplitr; · iexact HR
  isplitl [Ht2]; · iexact Ht2
  isplitl [HX]; · iexact HX
  isplitl [Hf2]; · iexact Hf2
  iintro ⟨HX, Hc2⟩
  iapply wp_seq; iapply (wp_ldw m K d j .r n)
  isplitr; · iexact HR
  isplitl [HO]; · iexact HO
  isplitl [Ha1]; · iexact Ha1
  isplitl [Hc1]; · iexact Hc1
  iintro ⟨HO, Hv1, Hf1⟩
  iapply (wp_ldw m K d j .l n)
  isplitr; · iexact HR
  isplitl [HO]; · iexact HO
  isplitl [Ha2]; · iexact Ha2
  isplitl [Hc2]; · iexact Hc2
  iintro ⟨HO, Hv2, Hf2⟩
  iapply Hk
  iframe

/-! ### The opening -/

theorem bt_nbr : ∀ d : Dev nD, nx (bt d 0) .r = d ∧ nx (bt d 1) .l = d ∧ ax (bt d 2) .x = d ∧ ax (bt d 3) .y = d := by decide +kernel

theorem barPay_own (d : Dev nD) : (barPay (F := F) (bt d 0) 0 = barC d .r ∧ barPay (F := F) (bt d 1) 1 = barC d .l)
    ∧ barPay (F := F) (bt d 2) 2 = barO d .x ∧ barPay (F := F) (bt d 3) 3 = barO d .y := by
  obtain ⟨h0, h1, h2, h3⟩ := bt_nbr d
  refine ⟨⟨?_, ?_⟩, ?_, ?_⟩
  · show barC (nx (bt d 0) .r) .r = _; rw [h0]
  · show barC (nx (bt d 1) .l) .l = _; rw [h1]
  · show barO (ax (bt d 2) .x) .x = _; rw [h2]
  · show barO (ax (bt d 3) .y) .y = _; rw [h3]

/-- What the opening's barrier takes: what core `d` lends its neighbours, the tokens and its turn. -/
def OPN (d : Dev nD) : sProp 𝕄 :=
  iprop((barC d .r ∗ barC d .l ∗ barO d .x ∗ barO d .y)
    ∗ (dutyTok ER (cell (bt d 0) cBar) 0 (0 : Fin 4) ∗ dutyTok ER (cell (bt d 1) cBar) 0 (1 : Fin 4)
      ∗ dutyTok ER (cell (bt d 2) cBar) 0 (2 : Fin 4) ∗ dutyTok ER (cell (bt d 3) cBar) 0 (3 : Fin 4))
    ∗ at0 d cBar ∗ cred (tallyAt (cell d cBar) () 4))

theorem wp_opening (d : Dev nD) (Q : PUnit → sProp 𝕄) :
    iprop(rcs m K ∗ (OW d (O₀ d) ∗ OPN (F := F) d ∗ LD (F := F) d 0 .r ∗ LD (F := F) d 0 .l ∗ XX m d ∗ FE (F := F) d)
        ∗ ((OW d (Ow d 0) ∗ (barC (nx d .r) .r ∗ barC (nx d .l) .l ∗ barO (ax d .x) .x ∗ barO (ax d .y) .y)
          ∗ sv0 (F := F) d cBar ∗ sv0 (F := F) d (cLd 0 .r) ∗ sv0 (F := F) d (cLd 0 .l) ∗ XX m d ∗ FA2 m d 0) -∗ Q ⟨⟩))
      ⊢ WP d (opening d) Q := by
  obtain ⟨⟨hp0, hp1⟩, hp2, hp3⟩ := barPay_own (F := F) d
  unfold OPN LD XX FE FA2 opening
  rw [← hp0, ← hp1, ← hp2, ← hp3]
  iintro ⟨#HR, ⟨HO, ⟨⟨Hb0, Hb1, Hb2, Hb3⟩, ⟨Hd0, Hd1, Hd2, Hd3⟩, Hat, Hcr⟩, ⟨Ht1, Ha1⟩, ⟨Ht2, Ha2⟩, HX, Hf1, Hf2⟩, Hk⟩
  iapply wp_seq; iapply (wp_ld m K d 0 .r)
  isplitr; · iexact HR
  isplitl [Ht1]; · iexact Ht1
  isplitl [HX]; · iexact HX
  isplitl [Hf1]; · iexact Hf1
  iintro ⟨HX, Hc1⟩
  iapply wp_seq; iapply (wp_ld m K d 0 .l)
  isplitr; · iexact HR
  isplitl [Ht2]; · iexact Ht2
  isplitl [HX]; · iexact HX
  isplitl [Hf2]; · iexact Hf2
  iintro ⟨HX, Hc2⟩
  iapply wp_seq; iapply (wp_sig1 m K d 0 (Ow d 0 + owB d 3 + owB d 2 + owB d 1))
  isplitr; · iexact HR
  isplitl [HO]; · iexact HO
  isplitl [Hd0]; · iexact Hd0
  isplitl [Hb0]; · iexact Hb0
  iintro HO
  iapply wp_seq; iapply (wp_sig1 m K d 1 (Ow d 0 + owB d 3 + owB d 2))
  isplitr; · iexact HR
  isplitl [HO]; · iexact HO
  isplitl [Hd1]; · iexact Hd1
  isplitl [Hb1]; · iexact Hb1
  iintro HO
  iapply wp_seq; iapply (wp_sig1 m K d 2 (Ow d 0 + owB d 3))
  isplitr; · iexact HR
  isplitl [HO]; · iexact HO
  isplitl [Hd2]; · iexact Hd2
  isplitl [Hb2]; · iexact Hb2
  iintro HO
  iapply wp_seq; iapply (wp_sig1 m K d 3 (Ow d 0))
  isplitr; · iexact HR
  isplitl [HO]; · iexact HO
  isplitl [Hd3]; · iexact Hd3
  isplitl [Hb3]; · iexact Hb3
  iintro HO
  iapply wp_seq; iapply (wp_wait4 m K d)
  isplitr; · iexact HR
  isplitl [HO]; · iexact HO
  isplitl [Hat]; · iexact Hat
  isplitl [Hcr]; · iexact Hcr
  iintro ⟨HO, Hv, Hb0, Hb1, Hb2, Hb3⟩
  iapply wp_seq; iapply (wp_ldw m K d 0 .r 0)
  isplitr; · iexact HR
  isplitl [HO]; · iexact HO
  isplitl [Ha1]; · iexact Ha1
  isplitl [Hc1]; · iexact Hc1
  iintro ⟨HO, Hv1, Hf1⟩
  iapply (wp_ldw m K d 0 .l 0)
  isplitr; · iexact HR
  isplitl [HO]; · iexact HO
  isplitl [Ha2]; · iexact Ha2
  isplitl [Hc2]; · iexact Hc2
  iintro ⟨HO, Hv2, Hf2⟩
  iapply Hk
  isplitl [HO]; · iexact HO
  isplitl [Hb0 Hb1 Hb2 Hb3]
  · isplitl [Hb0]; · iapply (show barPay (F := F) d 0 ⊢ barC (nx d .r) .r from .rfl); iexact Hb0
    isplitl [Hb1]; · iapply (show barPay (F := F) d 1 ⊢ barC (nx d .l) .l from .rfl); iexact Hb1
    isplitl [Hb2]; · iapply (show barPay (F := F) d 2 ⊢ barO (ax d .x) .x from .rfl); iexact Hb2
    iapply (show barPay (F := F) d 3 ⊢ barO (ax d .y) .y from .rfl); iexact Hb3
  iframe

/-! ### The ring -/

theorem hown1 (d : Dev nD) (sd : Side) (b : Fin 8) :
    (own d (cmB sd 0 b) fullShare (ac m d 1 sd b (RR m d 0 b sd)) : sProp 𝕄) ⊢ own d (srcV sd 1 b) fullShare (CC m 1 d sd b) :=
  Entails.of_eq (cm_dn d sd 0 b fullShare _).symm
theorem hown2 (d : Dev nD) (sd : Side) (b : Fin 8) :
    (own d (cmB sd 1 b) fullShare (ac m d 2 sd b (RR m d 1 b sd)) : sProp 𝕄) ⊢ own d (srcV sd 2 b) fullShare (CC m 2 d sd b) :=
  Entails.of_eq (cm_dn d sd 1 b fullShare _).symm

/-- The loads of the later hops. -/
abbrev LD3 (Φ : Fin 4 → Side → sProp 𝕄) : sProp 𝕄 := iprop((Φ 1 .r ∗ Φ 1 .l) ∗ (Φ 2 .r ∗ Φ 2 .l) ∗ (Φ 3 .r ∗ Φ 3 .l))

theorem wp_ring (d : Dev nD) (Q : PUnit → sProp 𝕄) :
    iprop(rcs m K ∗ (OW d (Ow d 0) ∗ XX m d ∗ FA2 m d 0 ∗ LD3 (LD (F := F) d)
          ∗ R6 (fun s sd b => TK (F := F) d (.ring s b sd)) ∗ R6 (fun s sd b => ownE (F := F) (nx d sd) (cmB sd s b)) ∗ R6 (fun s sd b => RC (F := F) d (.ring s b sd))
          ∗ (all8 (fun b => ownE (F := F) d (s0V .r b)) ∗ all8 (fun b => ownE (F := F) d (s0V .l b)))
          ∗ (all8 (fun b => ownE (F := F) d (hV d .ownLo b)) ∗ all8 (fun b => ownE (F := F) d (hV d .ownHi b)))
          ∗ A2 (fun a b => TK (F := F) d (.ag0 b a)) ∗ A2 (fun a b => ownE (F := F) (ax d a) (wV (ax d a) a.q b)))
        ∗ ((OW d (Ow d 64) ∗ XX m d ∗ FA2 m d 3 ∗ LD3 (fun j sd => sv0 (F := F) d (cLd j sd))
          ∗ R6 (fun s sd b => sv0 (F := F) d (cR (.ring s b sd))) ∗ R6 (fun s sd b => crd (F := F) d (cS (.ring s b sd)))
          ∗ (all8 (fun b => ownE (F := F) d (cmB .r 2 b)) ∗ all8 (fun b => ownE (F := F) d (cmB .l 2 b)))
          ∗ A2 (fun a b => crd (F := F) d (cS (.ag0 b a)))) -∗ Q ⟨⟩))
      ⊢ WP d (ring d) Q := by
  unfold ring
  iintro ⟨#HR, ⟨HO, HX, Hf, ⟨⟨L1, L1'⟩, ⟨L2, L2'⟩, L3, L3'⟩, ⟨T0, T0', T1, T1', T2, T2'⟩, ⟨D0, D0', D1, D1', D2, D2'⟩, ⟨R0, R0', R1, R1', R2, R2'⟩,
    ⟨S0, S0'⟩, ⟨O0, O0'⟩, ⟨Tx, Ty⟩, Dx, Dy⟩, Hk⟩
  iapply wp_seq; iapply (wp_loop0 m K d)
  isplitr; · iexact HR
  isplitl [T0 T0' D0 D0' S0 S0']; · iframe
  isplitl [HO Hf]; · iframe
  iintro ⟨⟨C0, C0'⟩, HO, Hf⟩
  ihave Hf := (FA2_FE m d 0) $$ Hf
  iapply wp_seq; iapply (wp_ld2 m K d 1 16)
  isplitr; · iexact HR
  isplitl [HO L1 L1' HX Hf]; · iframe
  iintro ⟨HO, V1, V1', HX, Hf⟩
  iapply wp_seq; iapply (wp_loop1 m K d 0 1 1 rfl (hown1 m d))
  isplitr; · iexact HR
  isplitl [R0 R0' T1 T1' D1 D1']; · iframe
  isplitl [HO Hf]; · iframe
  iintro ⟨⟨W0, W0', C1, C1'⟩, HO, Hf⟩
  ihave Hf := (FA2_FE m d 1) $$ Hf
  iapply wp_seq; iapply (wp_ld2 m K d 2 32)
  isplitr; · iexact HR
  isplitl [HO L2 L2' HX Hf]; · iframe
  iintro ⟨HO, V2, V2', HX, Hf⟩
  iapply wp_seq; iapply (wp_loop1 m K d 1 2 2 rfl (hown2 m d))
  isplitr; · iexact HR
  isplitl [R1 R1' T2 T2' D2 D2']; · iframe
  isplitl [HO Hf]; · iframe
  iintro ⟨⟨W1, W1', C2, C2'⟩, HO, Hf⟩
  ihave Hf := (FA2_FE m d 2) $$ Hf
  iapply wp_seq; iapply (wp_ld2 m K d 3 48)
  isplitr; · iexact HR
  isplitl [HO L3 L3' HX Hf]; · iframe
  iintro ⟨HO, V3, V3', HX, Hf⟩
  iapply (wp_loop2 m K d)
  isplitr; · iexact HR
  isplitl [R2 R2' O0 O0' Tx Ty Dx Dy]; · iframe
  isplitl [HO Hf]; · iframe
  iintro ⟨⟨W2, W2', E2, E2', Cx, Cy⟩, HO, Hf⟩
  iapply Hk
  dsimp only [R6, A2, LD3]
  iframe

/-! ### The all-gather's second phase, and the drain -/

theorem wp_gather (d : Dev nD) (Q : PUnit → sProp 𝕄) :
    iprop(rcs m K ∗ (OW d (Ow d 64) ∗ A2 (fun a b => RC (F := F) d (.ag0 b a)) ∗ A2 (fun a b => RC (F := F) d (.ag1 b a))
          ∗ A2 (fun a b => TK (F := F) d (.ag1 b a)) ∗ A2 (fun a b => ownE (F := F) (ax d a) (hV (ax d a) a.d1 b)))
        ∗ ((OW d (Ow d 80) ∗ A2 (fun a b => sv0 (F := F) d (cR (.ag0 b a))) ∗ A2 (fun a b => sv0 (F := F) d (cR (.ag1 b a)))
          ∗ A2 (fun a b => crd (F := F) d (cS (.ag1 b a)))
          ∗ (all8 (fun b => outH m d .qxHi b fullShare) ∗ all8 (fun b => outH m d .qyLo b fullShare)
            ∗ all8 (fun b => outH m d .qdLo b fullShare) ∗ all8 (fun b => outH m d .qdHi b fullShare))) -∗ Q ⟨⟩))
      ⊢ WP d (gather d) Q := by
  unfold gather
  iintro ⟨#HR, ⟨HO, ⟨R0, R0'⟩, ⟨R1, R1'⟩, ⟨T1, T1'⟩, D1, D1'⟩, Hk⟩
  iapply wp_seq; iapply (wp_gather1 m K d)
  isplitr; · iexact HR
  isplitl [R0 T1' D1']; · iframe
  isplitl [HO]; · iexact HO
  iintro ⟨⟨V0, H1, C1'⟩, HO⟩
  iapply wp_seq; iapply (wp_gather2 m K d)
  isplitr; · iexact HR
  isplitl [R0' T1 D1]; · iframe
  isplitl [HO]; · iexact HO
  iintro ⟨⟨V0', H2, C1⟩, HO⟩
  iapply (wp_gather3 m K d)
  isplitr; · iexact HR
  isplitl [R1 R1']; · iframe
  isplitl [HO]; · iexact HO
  iintro ⟨⟨V1', H3, V1, H4⟩, HO⟩
  iapply Hk
  dsimp only [R6, A2, LD3]
  iframe

theorem wp_drain (d : Dev nD) (Q : PUnit → sProp 𝕄) :
    iprop(rcs m K ∗ (OW d (Ow d 80)
          ∗ R6 (fun s sd b => at0 (F := F) d (cS (.ring s b sd))) ∗ A2 (fun a b => at0 (F := F) d (cS (.ag0 b a))) ∗ A2 (fun a b => at0 (F := F) d (cS (.ag1 b a)))
          ∗ R6 (fun s sd b => crd (F := F) d (cS (.ring s b sd))) ∗ A2 (fun a b => crd (F := F) d (cS (.ag0 b a))) ∗ A2 (fun a b => crd (F := F) d (cS (.ag1 b a))))
        ∗ ((OW d (Ow d 80)
          ∗ R6 (fun s sd b => sv0 (F := F) d (cS (.ring s b sd))) ∗ A2 (fun a b => sv0 (F := F) d (cS (.ag0 b a))) ∗ A2 (fun a b => sv0 (F := F) d (cS (.ag1 b a)))
          ∗ R6 (fun s sd b => ownE (F := F) d (srcV sd s b)) ∗ A2 (fun a b => outW m d .own b a.sh) ∗ A2 (fun a b => outH m d a.h1 b fullShare)) -∗ Q ⟨⟩))
      ⊢ WP d (drain d) Q := by
  unfold drain
  iintro ⟨#HR, ⟨HO, ⟨A0, A0', A1, A1', A2, A2'⟩, ⟨A3, A3'⟩, ⟨A4, A4'⟩, ⟨C0, C0', C1, C1', C2, C2'⟩, ⟨C3, C3'⟩, C4, C4'⟩, Hk⟩
  iapply wp_seq; iapply (wp_drain0 m K d 0)
  isplitr; · iexact HR
  isplitl [A0 A0' C0 C0']; · iframe
  isplitl [HO]; · iexact HO
  iintro ⟨⟨V0, E0, V0', E0'⟩, HO⟩
  iapply wp_seq; iapply (wp_drain0 m K d 1)
  isplitr; · iexact HR
  isplitl [A1 A1' C1 C1']; · iframe
  isplitl [HO]; · iexact HO
  iintro ⟨⟨V1, E1, V1', E1'⟩, HO⟩
  iapply wp_seq; iapply (wp_drain0 m K d 2)
  isplitr; · iexact HR
  isplitl [A2 A2' C2 C2']; · iframe
  isplitl [HO]; · iexact HO
  iintro ⟨⟨V2, E2, V2', E2'⟩, HO⟩
  iapply wp_seq; iapply (wp_drain1 m K d)
  isplitr; · iexact HR
  isplitl [A3 A3' C3 C3']; · iframe
  isplitl [HO]; · iexact HO
  iintro ⟨⟨V3, E3, V3', E3'⟩, HO⟩
  iapply wp_seq; iapply (wp_drain2 m K d .y)
  isplitr; · iexact HR
  isplitl [A4' C4']; · iframe
  isplitl [HO]; · iexact HO
  iintro ⟨⟨V4', E4'⟩, HO⟩
  iapply (wp_drain2 m K d .x)
  isplitr; · iexact HR
  isplitl [A4 C4]; · iframe
  isplitl [HO]; · iexact HO
  iintro ⟨⟨V4, E4⟩, HO⟩
  iapply Hk
  dsimp only [R6, A2, LD3]
  iframe

/-! ### The whole body -/

/-- The buffers a core works in. -/
def BUF (d : Dev nD) : sProp 𝕄 :=
  iprop(FE (F := F) d ∗ (all8 (fun b => ownE (F := F) d (s0V .r b)) ∗ all8 (fun b => ownE (F := F) d (s0V .l b))) ∗ barC (F := F) d .r ∗ barC (F := F) d .l)
/-- The result's parts, whatever they hold: the own quarter's halves and what the axes write. -/
def OUTE (d : Dev nD) : sProp 𝕄 :=
  iprop((all8 (fun b => ownE (F := F) d (hV d .ownLo b)) ∗ all8 (fun b => ownE (F := F) d (hV d .ownHi b))) ∗ barO (F := F) d .x ∗ barO (F := F) d .y)
/-- The result's parts, holding the result. -/
def OUTH (d : Dev nD) : sProp 𝕄 :=
  iprop((all8 (fun b => outH m d .ownLo b fullShare) ∗ all8 (fun b => outH m d .ownHi b fullShare))
    ∗ (all8 (fun b => outH m d .qxLo b fullShare) ∗ all8 (fun b => outH m d .qxHi b fullShare))
    ∗ (all8 (fun b => outH m d .qyLo b fullShare) ∗ all8 (fun b => outH m d .qyHi b fullShare))
    ∗ (all8 (fun b => outH m d .qdLo b fullShare) ∗ all8 (fun b => outH m d .qdHi b fullShare)))
/-- The barrier's tokens, the core's turn at its barrier cell, and its credit. -/
def BTK (d : Dev nD) : sProp 𝕄 :=
  iprop((dutyTok ER (cell (bt d 0) cBar) 0 (0 : Fin 4) ∗ dutyTok ER (cell (bt d 1) cBar) 0 (1 : Fin 4)
      ∗ dutyTok ER (cell (bt d 2) cBar) 0 (2 : Fin 4) ∗ dutyTok ER (cell (bt d 3) cBar) 0 (3 : Fin 4))
    ∗ at0 d cBar ∗ cred (tallyAt (cell d cBar) () 4))
/-- The cells' part of what the launch gives a core. -/
def CLS (d : Dev nD) : sProp 𝕄 :=
  iprop(BTK (F := F) d ∗ ((LD (F := F) d 0 .r ∗ LD (F := F) d 0 .l) ∗ LD3 (LD (F := F) d))
    ∗ (bigSep Finset.univ fun t : Tr => TK (F := F) d t) ∗ (bigSep Finset.univ fun t : Tr => RC (F := F) d t)
    ∗ bigSep Finset.univ fun t : Tr => at0 (F := F) d (cS t))
/-- A core's cells, all back at zero. -/
def SV (d : Dev nD) : sProp 𝕄 :=
  iprop(sv0 (F := F) d cBar ∗ ((sv0 (F := F) d (cLd 0 .r) ∗ sv0 (F := F) d (cLd 0 .l)) ∗ LD3 (fun j sd => sv0 (F := F) d (cLd j sd)))
    ∗ (bigSep Finset.univ fun t : Tr => sv0 (F := F) d (cS t)) ∗ bigSep Finset.univ fun t : Tr => sv0 (F := F) d (cR t))

theorem out_own (d : Dev nD) (b : Fin 8) :
    iprop(outW m d .own b Ax.x.sh ∗ outW m d .own b Ax.y.sh) ⊢ iprop(outH m d .ownLo b fullShare ∗ outH m d .ownHi b fullShare) :=
  (own_halves d (wV d .own b) fullShare _).2.trans (out_halves d .own b fullShare (OUT m d)).1
theorem out_own8 (d : Dev nD) :
    iprop(all8 (fun b => outW m d .own b Ax.x.sh) ∗ all8 (fun b => outW m d .own b Ax.y.sh))
      ⊢ iprop(all8 (fun b => outH m d .ownLo b fullShare) ∗ all8 (fun b => outH m d .ownHi b fullShare)) := by
  unfold all8
  rw [← bigSep_sep', ← bigSep_sep']
  exact bigSep_mono fun b _ => out_own m d b
theorem cm_back (d : Dev nD) (sd : Side) (s : Fin 3) :
    all8 (fun b => ownE (F := F) d (cmV sd s b)) ⊢ all8 (fun b => ownE (F := F) d (cmB sd s b)) :=
  bigSep_mono fun b _ => cmE' d sd s b

theorem barC_eq (e : Dev nD) (sd : Side) : (barC (F := F) e sd) = iprop(all8 (fun b => ownE (F := F) e (cmB sd 0 b)) ∗ all8 (fun b => ownE (F := F) e (cmB sd 1 b)) ∗ all8 (fun b => ownE (F := F) e (cmB sd 2 b))) :=
  bigSep_cm _

/-- The body on core `d`: it ends with the result in place, its cells at zero, nothing owed. -/
theorem wp_main (d : Dev nD) (Q : PUnit → sProp 𝕄) :
    iprop(rcs m K ∗ (OW d (O₀ d) ∗ XX m d ∗ BUF (F := F) d ∗ OUTE (F := F) d ∗ CLS (F := F) d)
        ∗ ((OW d 0 ∗ XX m d ∗ BUF (F := F) d ∗ OUTH m d ∗ SV (F := F) d) -∗ Q ⟨⟩))
      ⊢ WP d (main d) Q := by
  unfold BUF OUTE OUTH CLS SV BTK main
  iintro ⟨#HR, ⟨HO, HX, ⟨Hf, ⟨S0, S0'⟩, B0, B1⟩, ⟨⟨O0, O0'⟩, B2, B3⟩, ⟨Bt, Ba, Bc⟩, ⟨⟨L0, L0'⟩, L3⟩, HT, HC, HA⟩, Hk⟩
  ihave HT := (bigSep_tr (fun t => TK (F := F) d t)).1 $$ HT
  icases HT with ⟨T, T0, T1⟩
  ihave HC := (bigSep_tr (fun t => RC (F := F) d t)).1 $$ HC
  icases HC with ⟨R, R0, R1⟩
  ihave HA := (bigSep_tr (fun t => at0 (F := F) d (cS t))).1 $$ HA
  icases HA with ⟨A, A0, A1⟩
  iapply wp_seq; iapply (wp_opening m K d)
  isplitr; · iexact HR
  isplitl [HO B0 B1 B2 B3 Bt Ba Bc L0 L0' HX Hf]
  · unfold OPN; iframe
  rw [barC_eq (nx d .r), barC_eq (nx d .l)]
  unfold barO
  iintro ⟨HO, ⟨⟨D0, D1, D2⟩, ⟨D0', D1', D2'⟩, ⟨Dx, Dx'⟩, Dy, Dy'⟩, Vb, V0, V0', HX, Hf⟩
  iapply wp_seq; iapply (wp_ring m K d)
  isplitr; · iexact HR
  isplitl [HO HX Hf L3 T D0 D1 D2 D0' D1' D2' R S0 S0' O0 O0' T0 Dx Dy]
  · dsimp only [R6, A2, LD3]; iframe
  iintro ⟨HO, HX, Hf, V3, VR, CS, ⟨E2, E2'⟩, CA⟩
  iapply wp_seq; iapply (wp_gather m K d)
  isplitr; · iexact HR
  isplitl [HO R0 R1 T1 Dx' Dy']
  · dsimp only [R6, A2, LD3]; iframe
  iintro ⟨HO, VR0, VR1, CB, H1, H2, H3, H4⟩
  iapply (wp_drain m K d)
  isplitr; · iexact HR
  isplitl [HO A A0 A1 CS CA CB]
  · dsimp only [R6, A2, LD3]; iframe
  rw [Ow_end]
  iintro ⟨HO, VS, VS0, VS1, ⟨E0, E0', E1, E1', E3, E3'⟩, W, H5, H6⟩
  ihave W := (out_own8 m d) $$ W
  icases W with ⟨W1, W2⟩
  ihave E1 := (cm_back (F := F) d .r 0) $$ E1
  ihave E1' := (cm_back (F := F) d .l 0) $$ E1'
  ihave E3 := (cm_back (F := F) d .r 1) $$ E3
  ihave E3' := (cm_back (F := F) d .l 1) $$ E3'
  ihave Hf := (FA2_FE m d 3) $$ Hf
  iapply Hk
  isplitl [HO]; · iexact HO
  isplitl [HX]; · iexact HX
  isplitl [Hf E0 E0' E1 E1' E2 E2' E3 E3']
  · rw [barC_eq, barC_eq]; iframe
  isplitl [W1 W2 H1 H2 H3 H4 H5 H6]
  · iframe
  isplitl [Vb]; · iexact Vb
  isplitl [V0 V0' V3]; · iframe
  isplitl [VS VS0 VS1]
  · iapply (bigSep_tr (fun t => sv0 (F := F) d (cS t))).2; iframe
  · iapply (bigSep_tr (fun t => sv0 (F := F) d (cR t))).2; iframe

end Cert.KernelIdeal.Body

end
-- ==== Proof.Ideal.Buffers.lean ====
/-
  A core's buffers whole and in the parts its transfers move: the working buffers both ways, the result block apart
  before the body and together after it.
-/
module

public import proofs.«01_k».proof.Proof.Ideal.Core

@[expose] public section

set_option synthInstance.maxSize 4096
set_option maxRecDepth 20000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A buffer held whole, whatever it holds. -/
abbrev anyB (d : Dev nD) (b : Ref sig .tc) : sProp 𝕄 :=
  iprop(∃ f : Buf (Elt F) ((d : Thread nD τ).loc b), ((d : Thread nD τ).loc b) ↦{fullShare} f)

section Rects

variable {T : Type} [Fintype T] [DecidableEq T] (d : Dev nD) (b : Ref sig .tc) (r : T → Rect b.ty.shape) (hr : ∀ t a, (r t).stride a = 1)
  (hd : ∀ t t', t ≠ t' → Disjoint (r t).set (r t').set) (hcov : ∀ i, ∃ t, i ∈ (r t).set)
include hd hcov

theorem cov_eq : (Finset.univ : Finset T).biUnion (fun t => (r t).set) = Finset.univ := by
  ext i
  obtain ⟨t, ht⟩ := hcov i
  exact ⟨fun _ => Finset.mem_univ _, fun _ => Finset.mem_biUnion.mpr ⟨t, Finset.mem_univ _, ht⟩⟩

/-- A whole buffer comes apart into disjoint rectangles that cover it. -/
theorem split_rects : anyB (F := F) d b ⊢ bigSep Finset.univ fun t => ownE (F := F) d ((Memref.whole b).slice (r t) (hr t)) := by
  iintro ⟨%f, H⟩
  ihave H := (Entails.of_eq (owns_whole (Ix := Unit) (Name := ℕ) (U := UU) (Lvl := ℕ) (Val := Elt F) (d : Thread nD τ) b fullShare f).symm) $$ H
  ihave H := (owns_rects (Ix := Unit) (Name := ℕ) (U := UU) (Lvl := ℕ) (Val := Elt F) (d : Thread nD τ) (Memref.whole b) fullShare r hr hd (cov_eq b r hd hcov) f) $$ H
  iapply (show (bigSep Finset.univ fun t => own d ((Memref.whole b).slice (r t) (hr t)) fullShare fun j => f ((r t).emb j)) ⊢ _ from
    bigSep_mono fun t _ => own_ownE d _ _)
  iexact H

/-- And goes together again. -/
theorem join_rects : (bigSep Finset.univ fun t => ownE (F := F) d ((Memref.whole b).slice (r t) (hr t))) ⊢ anyB (F := F) d b := by
  have h1 : ∀ t, ownE (F := F) d ((Memref.whole b).slice (r t) (hr t))
      ⊢ (iprop(∃ g : Buf (Elt F) ((d : Thread nD τ).loc b), ((d : Thread nD τ).loc b) ↦[(r t).set]{fullShare} g) : sProp 𝕄) := fun t => by
    unfold ownE
    iintro ⟨%X, H⟩
    ihave H := (own_open d _ fullShare X) $$ H
    icases H with ⟨%g, -, H⟩
    iexists g
    rw [← show ((Memref.whole b).slice (r t) (hr t)).view.set = (r t).set from View.set_slice_whole b (r t)]
    iexact H
  refine (bigSep_mono fun t _ => h1 t).trans ?_
  show (bigSep Finset.univ fun t : T => (iprop(∃ g : Buf (Elt F) ((d : Thread nD τ).loc b), ((d : Thread nD τ).loc b) ↦[(r t).set]{fullShare} g) : sProp 𝕄)) ⊢ _
  iintro H
  ihave H := (bigSep_exists_pi Finset.univ fun (t : T) (g : Buf (Elt F) ((d : Thread nD τ).loc b)) =>
    (((d : Thread nD τ).loc b) ↦[(r t).set]{fullShare} g : sProp 𝕄)) $$ H
  icases H with ⟨%gs, H⟩
  ihave H := (pointsTo_biUnion_join (q := fullShare) Finset.univ (fun t => (r t).set) gs (fun _ => Classical.choice inferInstance) fun t _ t' _ h => hd t t' h) $$ H
  icases H with ⟨%g, -, H⟩
  iexists g
  rw [cov_eq b r hd hcov]
  iexact H

end Rects

/-! ### The rectangles -/

theorem mem_rS0 {b : Fin 8} {i : S4096x128.Idx} : i ∈ (rS0 b).set ↔ 512 * b.val ≤ (i 0).val ∧ (i 0).val < 512 * b.val + 512 := by
  rw [Rect.mem_set_unit]
  have h1 : (i 1).val < 128 := (i 1).isLt
  exact Fin.forall_fin_two.trans ⟨fun h => h.1, fun h => ⟨h, Nat.zero_le _, by show (i 1).val < 0 + 128; omega⟩⟩

theorem rS0_disj : ∀ t t' : Fin 8, t ≠ t' → Disjoint (rS0 t).set (rS0 t').set := fun t t' h => by
  rw [Finset.disjoint_left]
  intro i h1 h2
  rw [mem_rS0] at h1 h2
  exact h (Fin.ext (by omega))
theorem rS0_cov (i : S4096x128.Idx) : ∃ t : Fin 8, i ∈ (rS0 t).set := by
  have h0 : (i 0).val < 4096 := (i 0).isLt
  exact ⟨⟨(i 0).val / 512, by omega⟩, mem_rS0.mpr (by dsimp only; omega)⟩

theorem mem_rCm {p : Fin 3 × Fin 8} {i : S3x4096x128.Idx} :
    i ∈ (rCm p.1 p.2).set ↔ (i 0).val = p.1.val ∧ 512 * p.2.val ≤ (i 1).val ∧ (i 1).val < 512 * p.2.val + 512 := by
  rw [Rect.mem_set_unit]
  have h2 : (i 2).val < 128 := (i 2).isLt
  constructor
  · intro h
    have a0 : p.1.val ≤ (i 0).val ∧ (i 0).val < p.1.val + 1 := h 0
    have a1 : 512 * p.2.val ≤ (i 1).val ∧ (i 1).val < 512 * p.2.val + 512 := h 1
    exact ⟨by omega, a1⟩
  · rintro ⟨e0, e1⟩ a
    fin_cases a
    · show p.1.val ≤ (i 0).val ∧ (i 0).val < p.1.val + 1
      omega
    · exact e1
    · show 0 ≤ (i 2).val ∧ (i 2).val < 0 + 128
      omega
theorem rCm_disj : ∀ t t' : Fin 3 × Fin 8, t ≠ t' → Disjoint (rCm t.1 t.2).set (rCm t'.1 t'.2).set := fun t t' h => by
  rw [Finset.disjoint_left]
  intro i h1 h2
  rw [mem_rCm] at h1 h2
  exact h (Prod.ext (Fin.ext (by omega)) (Fin.ext (by omega)))
theorem rCm_cov (i : S3x4096x128.Idx) : ∃ t : Fin 3 × Fin 8, i ∈ (rCm t.1 t.2).set := by
  have h0 : (i 0).val < 3 := (i 0).isLt
  have h1 : (i 1).val < 4096 := (i 1).isLt
  exact ⟨(⟨(i 0).val, h0⟩, ⟨(i 1).val / 512, by omega⟩), mem_rCm.mpr ⟨rfl, by dsimp only; omega⟩⟩

theorem mem_rFa {sd : Side} {i : S2x4096x128.Idx} : i ∈ (rFa sd).set ↔ (i 0).val = sd.ix := by
  rw [Rect.mem_set_unit]
  have h1 : (i 1).val < 4096 := (i 1).isLt
  have h2 : (i 2).val < 128 := (i 2).isLt
  constructor
  · intro h
    have a0 : sd.ix ≤ (i 0).val ∧ (i 0).val < sd.ix + 1 := h 0
    omega
  · intro e a
    fin_cases a
    · show sd.ix ≤ (i 0).val ∧ (i 0).val < sd.ix + 1
      omega
    · show 0 ≤ (i 1).val ∧ (i 1).val < 0 + 4096
      omega
    · show 0 ≤ (i 2).val ∧ (i 2).val < 0 + 128
      omega
theorem rFa_disj : ∀ t t' : Side, t ≠ t' → Disjoint (rFa t).set (rFa t').set := fun t t' h => by
  rw [Finset.disjoint_left]
  intro i h1 h2
  rw [mem_rFa] at h1 h2
  cases t <;> cases t' <;> first | exact h rfl | (simp only [Side.ix] at h1 h2; omega)
theorem rFa_cov (i : S2x4096x128.Idx) : ∃ t : Side, i ∈ (rFa t).set := by
  have h0 : (i 0).val < 2 := (i 0).isLt
  by_cases h : (i 0).val = 0
  · exact ⟨.r, mem_rFa.mpr h⟩
  · exact ⟨.l, mem_rFa.mpr (by show _ = 1; omega)⟩

/-- The halves, listed. -/
instance : Fintype Hf := ⟨{.ownLo, .ownHi, .qxLo, .qxHi, .qyLo, .qyHi, .qdLo, .qdHi}, fun h => by cases h <;> decide⟩

theorem colH_mod : ∀ (d : Dev nD) (h : Hf), colH d h % 128 = 0 := by decide +kernel
theorem colH_inj : ∀ (d : Dev nD) (h h' : Hf), colH d h = colH d h' → h = h' := by decide +kernel
theorem colH_cov : ∀ (d : Dev nD) (k : Fin 8), ∃ h : Hf, colH d h = 128 * k.val := by decide +kernel

theorem rH_disj (d : Dev nD) : ∀ t t' : Hf × Fin 8, t ≠ t' → Disjoint (rH d t.1 t.2).set (rH d t'.1 t'.2).set := fun t t' h => by
  rw [Finset.disjoint_left]
  intro i h1 h2
  rw [mem_rH] at h1 h2
  have e1 := colH_mod d t.1
  have e2 := colH_mod d t'.1
  exact h (Prod.ext (colH_inj d _ _ (by omega)) (Fin.ext (by omega)))
theorem rH_cov (d : Dev nD) (i : S4096x1024.Idx) : ∃ t : Hf × Fin 8, i ∈ (rH d t.1 t.2).set := by
  have h0 : (i 0).val < 4096 := (i 0).isLt
  have h1 : (i 1).val < 1024 := (i 1).isLt
  obtain ⟨h, hh⟩ := colH_cov d ⟨(i 1).val / 128, by omega⟩
  refine ⟨(h, ⟨(i 0).val / 512, by omega⟩), mem_rH.mpr ?_⟩
  dsimp only at hh ⊢
  rw [hh]
  omega

theorem bigSep_hf (Φ : Hf → sProp 𝕄) :
    bigSep Finset.univ Φ = iprop(Φ .ownLo ∗ Φ .ownHi ∗ Φ .qxLo ∗ Φ .qxHi ∗ Φ .qyLo ∗ Φ .qyHi ∗ Φ .qdLo ∗ Φ .qdHi) :=
  bigSep_univ_eq_bigSepL [Hf.ownLo, Hf.ownHi, Hf.qxLo, Hf.qxHi, Hf.qyLo, Hf.qyHi, Hf.qdLo, Hf.qdHi] (by decide) (by decide) Φ

/-! ### The working buffers -/

/-- The working buffers whole. -/
def SCR (d : Dev nD) : sProp 𝕄 :=
  iprop(anyB d cc0_scratch0 ∗ anyB d cc0_scratch1 ∗ anyB d cc0_scratch2 ∗ anyB d cc0_scratch3 ∗ anyB d cc0_scratch4)

/-- The working buffers come apart into what the body works in, -/
theorem scr_buf (d : Dev nD) : SCR (F := F) d ⊢ BUF (F := F) d := by
  have hf := split_rects (F := F) d cc0_scratch4 rFa (fun _ _ => rfl) rFa_disj rFa_cov
  rw [bigSep_side] at hf
  unfold SCR BUF FE barC
  iintro ⟨H0, H1, H2, H3, H4⟩
  isplitl [H4]
  · iapply hf; iexact H4
  isplitl [H2 H3]
  · isplitl [H2]
    · iapply (split_rects (F := F) d cc0_scratch2 rS0 (fun _ _ => rfl) rS0_disj rS0_cov); iexact H2
    · iapply (split_rects (F := F) d cc0_scratch3 rS0 (fun _ _ => rfl) rS0_disj rS0_cov); iexact H3
  isplitl [H0]
  · iapply (split_rects (F := F) d cc0_scratch0 (fun p : Fin 3 × Fin 8 => rCm p.1 p.2) (fun _ _ => rfl) rCm_disj rCm_cov); iexact H0
  · iapply (split_rects (F := F) d cc0_scratch1 (fun p : Fin 3 × Fin 8 => rCm p.1 p.2) (fun _ _ => rfl) rCm_disj rCm_cov); iexact H1

/-- and go together again. -/
theorem buf_scr (d : Dev nD) : BUF (F := F) d ⊢ SCR (F := F) d := by
  have hf := join_rects (F := F) d cc0_scratch4 rFa (fun _ _ => rfl) rFa_disj rFa_cov
  rw [bigSep_side] at hf
  unfold SCR BUF FE barC
  iintro ⟨H4, ⟨H2, H3⟩, H0, H1⟩
  isplitl [H0]
  · iapply (join_rects (F := F) d cc0_scratch0 (fun p : Fin 3 × Fin 8 => rCm p.1 p.2) (fun _ _ => rfl) rCm_disj rCm_cov); iexact H0
  isplitl [H1]
  · iapply (join_rects (F := F) d cc0_scratch1 (fun p : Fin 3 × Fin 8 => rCm p.1 p.2) (fun _ _ => rfl) rCm_disj rCm_cov); iexact H1
  isplitl [H2]
  · iapply (join_rects (F := F) d cc0_scratch2 rS0 (fun _ _ => rfl) rS0_disj rS0_cov); iexact H2
  isplitl [H3]
  · iapply (join_rects (F := F) d cc0_scratch3 rS0 (fun _ _ => rfl) rS0_disj rS0_cov); iexact H3
  · iapply hf; iexact H4

/-! ### The result block -/

/-- A quarter's halves, whatever they hold at first, at one contents make the quarter. -/
theorem wE_of_halves (d : Dev nD) (q : Qr) (b : Fin 8) (G : Vec F S4096x1024 .bf16) :
    iprop(own d (hV d q.lo b) fullShare (fun i => G ((rH d q.lo b).emb i)) ∗ own d (hV d q.hi b) fullShare (fun i => G ((rH d q.hi b).emb i)))
      ⊢ ownE (F := F) d (wV d q b) :=
  (out_halves d q b fullShare G).2.trans (own_ownE d _ _)

theorem wE_of_halves8 (d : Dev nD) (q : Qr) (G : Vec F S4096x1024 .bf16) :
    iprop(all8 (fun b => own d (hV d q.lo b) fullShare (fun i => G ((rH d q.lo b).emb i))) ∗ all8 (fun b => own d (hV d q.hi b) fullShare (fun i => G ((rH d q.hi b).emb i))))
      ⊢ bigSep Finset.univ fun b : Fin 8 => ownE (F := F) d (wV d q b) := by
  rw [← bigSep_sep']
  exact bigSep_mono fun b _ => wE_of_halves d q b G

/-- The result block comes apart into the parts the body and its neighbours write, -/
theorem out_split (d : Dev nD) : anyB (F := F) d cc0_stg0_0 ⊢ OUTE (F := F) d := by
  have hE : ∀ (h : Hf) (f : Vec F S4096x1024 .bf16), all8 (fun b => own d (hV d h b) fullShare (fun i => f ((rH d h b).emb i)))
      ⊢ (all8 (fun b => ownE (F := F) d (hV d h b)) : sProp 𝕄) := fun h f => bigSep_mono fun b _ => own_ownE d _ _
  have h (f : Vec F S4096x1024 .bf16) := owns_rects (Ix := Unit) (Name := ℕ) (U := UU) (Lvl := ℕ) (Val := Elt F) (d : Thread nD τ) outM fullShare (fun t : Hf × Fin 8 => rH d t.1 t.2)
    (fun _ _ => rfl) (rH_disj d) (cov_eq cc0_stg0_0 _ (rH_disj d) (rH_cov d)) f
  simp only [bigSep_univ_prod, bigSep_hf, owns_whole] at h
  unfold OUTE barO
  iintro ⟨%f, H⟩
  ihave H := (h f) $$ H
  icases H with ⟨H1, H2, H3, H4, H5, H6, H7, H8⟩
  isplitl [H1 H2]
  · isplitl [H1]
    · iapply (hE .ownLo f); iexact H1
    · iapply (hE .ownHi f); iexact H2
  isplitl [H3 H4 H8]
  · isplitl [H3 H4]
    · iapply (wE_of_halves8 d .qx f)
      isplitl [H3]
      · iexact H3
      · iexact H4
    · iapply (hE .qdHi f); iexact H8
  · isplitl [H5 H6]
    · iapply (wE_of_halves8 d .qy f)
      isplitl [H5]
      · iexact H5
      · iexact H6
    · iapply (hE .qdLo f); iexact H7

/-- and, holding the result part by part, holds it whole. -/
theorem out_join (d : Dev nD) : OUTH m d ⊢ (((d : Thread nD τ).loc cc0_stg0_0) ↦{fullShare} OUT m d : sProp 𝕄) := by
  have h := owns_of_rects (Ix := Unit) (Name := ℕ) (U := UU) (Lvl := ℕ) (Val := Elt F) (d : Thread nD τ) outM fullShare (fun t : Hf × Fin 8 => rH d t.1 t.2)
    (fun _ _ => rfl) (rH_disj d) (cov_eq cc0_stg0_0 _ (rH_disj d) (rH_cov d)) (OUT m d)
  rw [owns_whole] at h
  refine BIBase.Entails.trans ?_ h
  unfold OUTH
  iintro ⟨⟨H1, H2⟩, ⟨H3, H4⟩, ⟨H5, H6⟩, ⟨H7, H8⟩⟩
  iapply (Entails.of_eq (show _ = (bigSep Finset.univ fun t : Hf × Fin 8 => outH m d t.1 t.2 fullShare) from
    ((bigSep_univ_prod _).trans (bigSep_hf _)).symm))
  iframe

end Cert.KernelIdeal.Body
end
-- ==== Proof.Ideal.Launch.lean ====
/-
  The launch: the cells' rounds funded, every cell's invariant allocated, the tokens dealt to the cores that pay with
  them, the credit each core starts with, and the run of the whole program.
-/
module

public import proofs.«01_k».proof.Proof.Ideal.Buffers
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option synthInstance.maxSize 4096
set_option maxRecDepth 20000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Families over the cells -/

theorem bigSep_cl (Φ : Cl → sProp 𝕄) :
    bigSep Finset.univ Φ = iprop(bigSep Finset.univ (fun o : Oc => Φ (some o)) ∗ Φ cBar) := by
  rw [bigSep_univ_equiv (Equiv.optionEquivSumPUnit Oc).symm Φ, bigSep_sum]
  refine congrArg₂ (fun P Q : sProp 𝕄 => iprop(P ∗ Q)) rfl ?_
  exact bigSep_univ_eq_bigSepL [PUnit.unit] (by decide) (by decide) _

theorem bigSep_oc (Φ : Oc → sProp 𝕄) :
    bigSep Finset.univ Φ = iprop((bigSep Finset.univ fun p : Fin 4 × Side => Φ (.inl p)) ∗ (bigSep Finset.univ fun t : Tr => Φ (.inr (.inl t)))
      ∗ bigSep Finset.univ fun t : Tr => Φ (.inr (.inr t))) := by
  rw [bigSep_sum, bigSep_sum]

theorem bigSep_ld (Φ : Fin 4 × Side → sProp 𝕄) :
    bigSep Finset.univ Φ ⊣⊢ iprop((Φ (0, .r) ∗ Φ (0, .l)) ∗ LD3 fun j sd => Φ (j, sd)) := by
  rw [bigSep_univ_prod, bigSep_fin4]
  simp only [bigSep_side]
  exact ⟨.rfl, .rfl⟩

/-! ### What the launch's element funds -/

/-- Every core's cells. -/
def allCells : Finset (GSem nD τ sig) := Finset.univ.map ⟨fun p : Dev nD × Cl => cell p.1 p.2, cell_injective⟩

/-- The duties' tokens: the barrier's four, and one of each own cell. -/
abbrev tokOf (p : Dev nD × (Fin 4 ⊕ Oc)) : GSem nD τ sig × ℕ × Fin 4 :=
  match p.2 with
  | .inl i => (cell p.1 cBar, 0, i)
  | .inr o => (cell p.1 (some o), 0, 0)
theorem tokOf_injective : Function.Injective tokOf := by
  rintro ⟨c, i | o⟩ ⟨c', i' | o'⟩ h
  · have h1 := cell_injective (a₁ := (c, cBar)) (a₂ := (c', cBar)) (congrArg Prod.fst h)
    have h2 : i = i' := congrArg (fun x : GSem nD τ sig × ℕ × Fin 4 => x.2.2) h
    rw [h2, show c = c' from congrArg Prod.fst h1]
  · have h1 := cell_injective (a₁ := (c, cBar)) (a₂ := (c', some o')) (congrArg Prod.fst h)
    exact absurd (congrArg Prod.snd h1) (by simp)
  · have h1 := cell_injective (a₁ := (c, some o)) (a₂ := (c', cBar)) (congrArg Prod.fst h)
    exact absurd (congrArg Prod.snd h1) (by simp)
  · have h1 := cell_injective (a₁ := (c, some o)) (a₂ := (c', some o')) (congrArg Prod.fst h)
    have h2 : o = o' := Option.some.inj (congrArg Prod.snd h1)
    rw [h2, show c = c' from congrArg Prod.fst h1]
def allToks : Finset (GSem nD τ sig × ℕ × Fin 4) := Finset.univ.map ⟨tokOf, tokOf_injective⟩

/-- The launch's element: the pipeline's cells and these. -/
def u₀ : UU :=
  (initOf (Pipeline.cells cfgs cellOf_inj) (Pipeline.launchToks cfgs cellOf_inj), initOf allCells allToks)

/-- The tokens of core `d`'s own cells. -/
def toks (d : Dev nD) : sProp 𝕄 :=
  iprop((bigSep Finset.univ fun i : Fin 4 => dutyTok ER (cell d cBar) 0 i) ∗ (bigSep Finset.univ fun p : Fin 4 × Side => tok d (cLd p.1 p.2))
    ∗ (bigSep Finset.univ fun t : Tr => tok d (cS t)) ∗ bigSep Finset.univ fun t : Tr => tok d (cR t))

/-- What the launch's element deals core `d`. -/
def G (d : Dev nD) : sProp 𝕄 :=
  iprop((bigSep Finset.univ fun cl : Cl => roundState ER (Rd m) (cell d cl) 0)
    ∗ ((bigSep Finset.univ fun cl : Cl => at0 d cl) ∗ bigSep Finset.univ fun cl : Cl => reached ER (cell d cl) 0) ∗ toks d)

theorem fund_cells : BI.own (ER (initOf allCells allToks)) ⊢ (|==> bigSep Finset.univ (G m) : sProp 𝕄) := by
  have hX (Φ : GSem nD τ sig → sProp 𝕄) : bigSep allCells Φ = bigSep Finset.univ fun d : Dev nD => bigSep Finset.univ fun cl : Cl => Φ (cell d cl) := by
    unfold allCells; rw [bigSep_map, bigSep_univ_prod]; rfl
  have hT : bigSep allToks (fun x => (dutyTok ER x.1 x.2.1 x.2.2 : sProp 𝕄)) = bigSep Finset.univ fun d : Dev nD => toks d := by
    unfold allToks; rw [bigSep_map, bigSep_univ_prod]
    exact bigSep_congr fun d _ => by unfold toks; rw [bigSep_sum, bigSep_oc]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

/-! ### The semaphores -/

theorem ownSems0_eq (d : Dev nD) : (Pipeline.ownSems0 (Ix := Unit) (Name := ℕ) (U := UU) (Lvl := ℕ) (Val := Elt F) (τ := τ) osem d : sProp 𝕄)
    = bigSep Finset.univ fun o : Oc => sv0 d (some o) := rfl

theorem unscoped_bar : (Finset.univ.filter fun sm : SemLoc sig => ¬ sm.isScoped .tc) = {SemLoc.reg barS} := by decide +kernel
/-- The barrier semaphore is the one the kernel does not scope. -/
theorem unscopedSems0_eq (d : Dev nD) : (unscopedSems0 d : sProp 𝕄) = sv0 d cBar := by
  unfold unscopedSems0; rw [unscoped_bar, bigSep_singleton]

/-- Every cell's counter at zero is the core's semaphores at zero. -/
theorem sems0_eq (d : Dev nD) :
    iprop(Pipeline.ownSems0 (Ix := Unit) (Name := ℕ) (U := UU) (Lvl := ℕ) (Val := Elt F) (τ := τ) osem d ∗ unscopedSems0 d)
      = (bigSep Finset.univ fun cl : Cl => sv0 d cl : sProp 𝕄) := by
  rw [ownSems0_eq, unscopedSems0_eq, bigSep_cl]

theorem SV_sems (d : Dev nD) : SV (F := F) d
    ⊢ iprop(unscopedSems0 d ∗ Pipeline.ownSems0 (Ix := Unit) (Name := ℕ) (U := UU) (Lvl := ℕ) (Val := Elt F) (τ := τ) osem d) := by
  rw [ownSems0_eq, unscopedSems0_eq, bigSep_oc]
  unfold SV
  iintro ⟨Hb, HL, HS, HR⟩
  isplitl [Hb]; · iexact Hb
  isplitl [HL]
  · iapply (bigSep_ld (F := F) fun p => sv0 d (cLd p.1 p.2)).2; iexact HL
  isplitl [HS]
  · iexact HS
  · iexact HR

/-! ### The invariants, and the tokens to those who pay with them -/

theorem core_alloc (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun cl : Cl => iprop(∃ κ : ℕ, cellInv ER (Rd m) κ (cell d cl)))
          ∗ ((bigSep Finset.univ fun cl : Cl => at0 d cl) ∗ bigSep Finset.univ fun cl : Cl => reached ER (cell d cl) 0) ∗ toks d) := by
  unfold G
  iintro ⟨Hos, Hus, Hst, Hat, Htok⟩
  ihave Hv := (Entails.of_eq (sems0_eq (F := F) d)) $$ [Hos Hus]
  · isplitl [Hos] <;> iassumption
  imod (show iprop((bigSep Finset.univ fun cl : Cl => sv0 d cl) ∗ bigSep Finset.univ fun cl : Cl => roundState ER (Rd m) (cell d cl) 0)
      ⊢ (|={Set.univ}=> bigSep Finset.univ fun cl : Cl => iprop(∃ κ : ℕ, cellInv ER (Rd m) κ (cell d cl)) : sProp 𝕄) from by
        rw [← bigSep_sep']
        exact (bigSep_mono fun cl _ => (Rounds.body_intro ER (Rd m) (cell d cl)).trans inv_alloc).trans (bigSep_fupd _ _)) $$ [Hv Hst] with Hinv
  · isplitl [Hv] <;> iassumption
  imodintro
  iframe

/-- A barrier signal's neighbour, as a permutation of the cores. -/
def btE (i : Fin 4) : Dev nD ≃ Dev nD where
  toFun d := bt d i
  invFun d := bf d i
  left_inv d := bf_bt i d
  right_inv d := bt_bf i d
/-- A transfer's target, likewise. -/
def tgtE (t : Tr) : Dev nD ≃ Dev nD where
  toFun d := tgt d t
  invFun d := org d t
  left_inv d := org_tgt d t
  right_inv d := tgt_org d t

/-- The tokens core `d` pays with. -/
def payToks (d : Dev nD) : sProp 𝕄 :=
  iprop((bigSep Finset.univ fun i : Fin 4 => dutyTok ER (cell (bt d i) cBar) 0 i) ∗ (bigSep Finset.univ fun p : Fin 4 × Side => tok d (cLd p.1 p.2))
    ∗ (bigSep Finset.univ fun t : Tr => tok d (cS t)) ∗ bigSep Finset.univ fun t : Tr => tok (tgt d t) (cR t))

theorem toks_around : (bigSep Finset.univ fun d : Dev nD => (toks d : sProp 𝕄)) ⊢ bigSep Finset.univ fun d : Dev nD => payToks d := by
  have hB : (bigSep Finset.univ fun d : Dev nD => bigSep Finset.univ fun i : Fin 4 => (dutyTok ER (cell d cBar) 0 i : sProp 𝕄))
      = bigSep Finset.univ fun d : Dev nD => bigSep Finset.univ fun i : Fin 4 => dutyTok ER (cell (bt d i) cBar) 0 i := by
    rw [BI.bigSep_univ_comm, BI.bigSep_univ_comm (fun (d : Dev nD) (i : Fin 4) => (dutyTok ER (cell (bt d i) cBar) 0 i : sProp 𝕄))]
    exact bigSep_congr fun i _ => bigSep_univ_equiv (btE i) _
  have hT : (bigSep Finset.univ fun d : Dev nD => bigSep Finset.univ fun t : Tr => (tok d (cR t) : sProp 𝕄))
      = bigSep Finset.univ fun d : Dev nD => bigSep Finset.univ fun t : Tr => tok (tgt d t) (cR t) := by
    rw [BI.bigSep_univ_comm, BI.bigSep_univ_comm (fun (d : Dev nD) (t : Tr) => (tok (tgt d t) (cR t) : sProp 𝕄))]
    exact bigSep_congr fun t _ => bigSep_univ_equiv (tgtE t) _
  unfold toks payToks
  simp only [bigSep_sep']
  rw [hB, hT]

/-- What stays with core `d`: its turns, and the tokens it pays with. -/
def lin (d : Dev nD) : sProp 𝕄 := iprop((bigSep Finset.univ fun cl : Cl => at0 d cl) ∗ payToks d)
/-- The cells' invariants and that each has reached its round. -/
def recs (K : Dev nD × Cl → ℕ) : sProp 𝕄 :=
  iprop((bigSep Finset.univ fun p : Dev nD × Cl => cellInv ER (Rd m) (K p) (cell p.1 p.2))
    ∗ bigSep Finset.univ fun p : Dev nD × Cl => reached ER (cell p.1 p.2) 0)
instance recs_persistent (K : Dev nD × Cl → ℕ) : BI.Persistent (recs m K) := by unfold recs; infer_instance

/-- What the launch makes of its element for core `d`. -/
def G' (d : Dev nD) : sProp 𝕄 := iprop(∃ K, recs m K ∗ lin d)

theorem bigSep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun d : Dev nD => iprop((bigSep Finset.univ fun cl : Cl => iprop(∃ κ : ℕ, cellInv ER (Rd m) κ (cell d cl)))
          ∗ ((bigSep Finset.univ fun cl : Cl => at0 d cl) ∗ bigSep Finset.univ fun cl : Cl => reached ER (cell d cl) 0) ∗ toks d) : sProp 𝕄)
      ⊢ bigSep Finset.univ (G' m) := by
  simp only [bigSep_sep']
  rw [← bigSep_univ_prod (fun p : Dev nD × Cl => iprop(∃ κ : ℕ, cellInv ER (Rd m) κ (cell p.1 p.2))),
    ← bigSep_univ_prod (fun p : Dev nD × Cl => (reached ER (cell p.1 p.2) 0 : sProp 𝕄))]
  iintro ⟨HI, ⟨Hat, #HR⟩, Htok⟩
  ihave HK := (BI.bigSep_exists_pi Finset.univ (fun (p : Dev nD × Cl) (κ : ℕ) => (cellInv ER (Rd m) κ (cell p.1 p.2) : sProp 𝕄))) $$ HI
  icases HK with ⟨%K, #HI⟩
  ihave Htk := (toks_around (F := F)) $$ Htok
  iapply (bigSep_pers (R := recs m K) (Φ := lin) (Ψ := G' m) fun d _ => by unfold G'; iintro ⟨H1, H2⟩; iexists K; iframe)
  isplitr
  · unfold recs; isplitl; · iexact HI
    iexact HR
  · unfold lin; rw [bigSep_sep']
    isplitl [Hat]; · iexact Hat
    iexact Htk

/-- The launch's step over all the cores at once. -/
theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

/-! ### The launch's credit -/

theorem cred_bar (d : Dev nD) (i : Fin 4) :
    (Pipeline.launchCred (fun e => owB e i) d : sProp 𝕄) ⊢ cred (tallyAt (cell d cBar) () 1) :=
  Pipeline.launchCred_tallyAt (csem cBar) (fun e => bt e i) (fun e => bf e i) (bt_bf i) (bf_bt i) () 1 d

theorem cred_tr (d : Dev nD) (t : Tr) : (Pipeline.launchCred (fun e => ow1 e t) d : sProp 𝕄) ⊢ crd d (cR t) :=
  Pipeline.launchCred_tallyAt (csem (cR t)) (fun e => tgt e t) (fun e => org e t) (fun e => tgt_org e t) (fun e => org_tgt e t) () (trN t) d

theorem cred_Ow (d : Dev nD) : (Pipeline.launchCred (fun e => Ow e 0) d : sProp 𝕄) ⊢ bigSep Finset.univ fun t : Tr => crd d (cR t) := by
  have h : (fun e : Dev nD => Ow e 0) = fun e => ∑ t ∈ Finset.univ, ow1 e t := funext fun e => by
    unfold Ow; rw [Finset.filter_true_of_mem fun t _ => Nat.zero_le _]
  rw [h, Pipeline.launchCred_sum Finset.univ (fun (t : Tr) (e : Dev nD) => ow1 e t) d]
  exact bigSep_mono fun t _ => cred_tr d t

theorem creds (d : Dev nD) :
    (Pipeline.launchCred O₀ d : sProp 𝕄) ⊢ iprop(cred (tallyAt (cell d cBar) () 4) ∗ bigSep Finset.univ fun t : Tr => crd d (cR t)) := by
  have h : (O₀ : Dev nD → CellTallies nD τ sig Unit) = fun e => (((Ow e 0 + owB e 3) + owB e 2) + owB e 1) + owB e 0 := rfl
  have h4 : iprop(((cred (tallyAt (cell d cBar) () 1) ∗ cred (tallyAt (cell d cBar) () 1)) ∗ cred (tallyAt (cell d cBar) () 1)) ∗ cred (tallyAt (cell d cBar) () 1))
      ⊢ (cred (tallyAt (cell d cBar) () 4) : sProp 𝕄) := by
    have e := tallyAt_add (nD := nD) (τ := τ) (sig := sig) (Ix := Unit) (cell d cBar) ()
    rw [← e 3 1, ← e 2 1, ← e 1 1]
    refine (sep_mono_left ((sep_mono_left (cred_add _ _).2).trans (cred_add _ _).2)).trans (cred_add _ _).2
  rw [h, Pipeline.launchCred_add (fun e => Ow e 0 + owB e 3 + owB e 2 + owB e 1) (fun e => owB e 0) d,
    Pipeline.launchCred_add (fun e => Ow e 0 + owB e 3 + owB e 2) (fun e => owB e 1) d,
    Pipeline.launchCred_add (fun e => Ow e 0 + owB e 3) (fun e => owB e 2) d,
    Pipeline.launchCred_add (fun e => Ow e 0) (fun e => owB e 3) d]
  iintro ⟨⟨⟨⟨H, H3⟩, H2⟩, H1⟩, H0⟩
  isplitl [H3 H2 H1 H0]
  · iapply h4
    isplitl [H3 H2 H1]
    · isplitl [H3 H2]
      · isplitl [H3]
        · iapply (cred_bar d 3); iexact H3
        · iapply (cred_bar d 2); iexact H2
      · iapply (cred_bar d 1); iexact H1
    · iapply (cred_bar d 0); iexact H0
  · iapply (cred_Ow d); iexact H

/-! ### A core's start and end -/

/-- What core `d`'s body starts from, beside its buffers. -/
def start (d : Dev nD) : sProp 𝕄 := iprop((∃ K, rcs m K) ∗ XX m d ∗ CLS (F := F) d)

def Φ₀ (d : Dev nD) : sProp 𝕄 := iprop(start m d ∗ BUF (F := F) d)
def Φ₁ (d : Dev nD) : sProp 𝕄 := iprop(SV (F := F) d ∗ BUF (F := F) d)

theorem lin_CLS (d : Dev nD) :
    iprop(lin d ∗ cred (tallyAt (cell d cBar) () 4) ∗ bigSep Finset.univ fun t : Tr => crd d (cR t)) ⊢ CLS (F := F) d := by
  unfold lin payToks CLS BTK
  rw [bigSep_cl, bigSep_oc, bigSep_fin4]
  iintro ⟨⟨⟨⟨HaL, HaS, HaR⟩, HaB⟩, HtB, HtL, HtS, HtR⟩, HcB, HcR⟩
  isplitl [HtB HaB HcB]
  · iframe
  isplitl [HtL HaL]
  · iapply (bigSep_ld (F := F) fun p => LD d p.1 p.2).1
    unfold LD; rw [bigSep_sep']
    isplitl [HtL]; · iexact HtL
    iexact HaL
  isplitl [HtS HtR]
  · unfold TK; rw [bigSep_sep']
    isplitl [HtS]; · iexact HtS
    iexact HtR
  isplitl [HaR HcR]
  · unfold RC; rw [bigSep_sep']
    isplitl [HaR]; · iexact HaR
    iexact HcR
  · iexact HaS

/-- The half of the operand the launch keeps. -/
def keep (d : Dev nD) : sProp 𝕄 := iprop(((d : Thread nD τ).loc main_arg0) ↦{fullShare.right} m ((d : Thread nD τ).loc main_arg0))

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ keep m d) := by
  rw [Pipeline.unscopedRestP_none, unscopedRest0_eq]
  have hx : (((d : Thread nD τ).loc main_arg0) ↦{fullShare} m ((d : Thread nD τ).loc main_arg0) : sProp 𝕄) ⊢ iprop(XX m d ∗ keep m d) := by
    have e (q : PosShare TreeShare) : (own d xM q (xa m d) : sProp 𝕄) = (((d : Thread nD τ).loc main_arg0) ↦{q} m ((d : Thread nD τ).loc main_arg0)) :=
      owns_whole (Ix := Unit) (Name := ℕ) (U := UU) (Lvl := ℕ) (Val := Elt F) (d : Thread nD τ) main_arg0 q (xa m d)
    have h := (own_halves d xM fullShare (xa m d)).1
    rw [e, e, e] at h
    unfold XX keep
    refine (show _ ⊢ _ from h).trans ?_
    iintro ⟨H1, H2⟩
    isplitl [H1]
    · iexists fullShare.left; rw [e]; iexact H1
    · iexact H2
  unfold G' recs
  iintro ⟨Hx, Hlev, Hcr, -, ⟨%K, ⟨HI, HR⟩, HL⟩⟩
  ihave Hc := (creds (F := F) d) $$ Hcr
  icases Hc with ⟨H1, HN⟩
  ihave Hx := hx $$ Hx
  icases Hx with ⟨HX, HK⟩
  imodintro
  unfold start
  isplitl [HI HR Hlev HX HL H1 HN]
  · isplitl [HI HR Hlev]
    · iexists K; unfold rcs levs; iframe
    isplitl [HX]; · iexact HX
    iapply (lin_CLS (F := F) d)
    iframe
  · iexact HK

/-! ### The body's obligation -/

/-- The kernel's data: the result block ends holding the result. -/
def dats (_ : Fin 1) (d : Dev nD) : Dat τ (Elt F) Unit ℕ UU ℕ cfg0 d where
  A w := (s₀ m ρ).mem ((cfg0.win w).arr.view.loc (d : Thread nD τ))
  after w _ := match w with
    | ⟨0, _⟩ => OUT m d
  Φ t := match t with
    | ⟨0, _⟩ => Φ₀ m d
    | ⟨_ + 1, _⟩ => Φ₁ d
  q _ := fullShare
  owed t := match t with
    | ⟨0, _⟩ => O₀ d
    | ⟨_ + 1, _⟩ => 0

/-- A staging buffer at given contents. -/
abbrev stg (d : Dev nD) (b : Ref sig .tc) (X : b.ty.Contents (Elt F)) : sProp 𝕄 :=
  iprop(∃ f : Buf (Elt F) (((d : Dev nD) : Thread nD τ).loc b), ⌜f = X⌝ ∗ (((d : Thread nD τ).loc b) ↦{fullShare} f))

def bodyPre (d : Dev nD) : sProp 𝕄 :=
  iprop(Φ₀ m d ∗ (dats m ρ 0 d).owesAt () t0_0.castSucc ∗ (∃ x, stg d cc0_stg0_0 ((dats m ρ 0 d).before (0 : Fin 1) t0_0 x)))
def bodyPost (d : Dev nD) : sProp 𝕄 :=
  iprop(Φ₁ d ∗ (dats m ρ 0 d).owesAt () t0_0.succ ∗ stg d cc0_stg0_0 (OUT m d))

theorem sound_body (d : Dev nD) :
    bodyPre m ρ d ⊢ wp frame (wpE (defs₀ (F := F)) 𝒱₀ (d : Thread nD τ) none) Set.univ (body (F := F)) (fun _ => bodyPost m ρ d) := by
  unfold body
  simp only [Prog.lift, Prog.bind_op, Prog.bind_ret, wp_deviceId]
  unfold bodyPre Φ₀ start Dat.owesAt Pipeline.owesWithin
  rw [show (dats m ρ 0 d).owed t0_0.castSucc = O₀ d from rfl]
  iintro ⟨⟨⟨⟨%K, HR⟩, HX, HC⟩, HB⟩, ⟨%W, %hW, HO⟩, ⟨%x, %f, -, Ho⟩⟩
  iapply (wp_main m K d fun _ => bodyPost m ρ d)
  isplitl [HR]; · iexact HR
  isplitl [HO HX HB Ho HC]
  · isplitl [HO]; · unfold OW; iexists W; iexact HO
    isplitl [HX]; · iexact HX
    isplitl [HB]; · iexact HB
    isplitl [Ho]; · iapply (out_split (F := F) d); iexists f; iexact Ho
    iexact HC
  iintro ⟨HO, -, HB, HH, HS⟩
  unfold OW
  icases HO with ⟨%W', HO⟩
  unfold bodyPost Φ₁ Dat.owesAt Pipeline.owesWithin
  rw [show (dats m ρ 0 d).owed t0_0.succ = 0 from rfl]
  isplitl [HS HB]
  · iframe
  isplitl [HO]
  · iexists W'
    isplitr; · ipureintro; exact fun _ _ => Or.inl trivial
    iexact HO
  iexists (OUT m d); isplitr; · (ipureintro; rfl)
  iapply (out_join m d); iexact HH

set_option maxRecDepth 1000000 in
theorem body_obligation (d : Dev nD) : BodyObligation (dats (F := F) m ρ 0 d) (defs₀ (F := F)) 𝒱₀ () Set.univ := fun t => by
  rw [fin_N0 t]
  rw [bigSep_W0, bigSep_W0]
  simp only [owns_whole_eq]
  show bodyPre m ρ d ⊢ wp frame (wpE (defs₀ (F := F)) 𝒱₀ (d : Thread nD τ) none) Set.univ (bodyAt0 t0_0) (fun _ => bodyPost m ρ d)
  rw [bodyAt0_eq]
  exact sound_body m ρ d

/-! ### The theorem's side conditions -/

theorem ownSemFacts : Pipeline.OwnSemFacts cfg0.spec osem where
  isScoped := by decide +kernel
  inj := osem_injective
  disj := by decide +kernel

theorem share_eq (d : Dev nD) (w : Fin cfg0.W) : (dats m ρ 0 d).share w = fullShare := by unfold Dat.share; split <;> rfl

theorem phi0_intro (d : Dev nD) :
    iprop(start m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m d from rfl, scopedRest0_eq]
  have h := scr_buf (F := F) d
  unfold SCR at h
  unfold Φ₀
  iintro ⟨Hs, -, Hr⟩
  isplitl [Hs]; · iexact Hs
  iapply h; iexact Hr

theorem phi1_exit (d : Dev nD) :
    (dats m ρ 0 d).Φ (Fin.last cfg0.N) ⊢ iprop(unscopedSems0 d ∗ Pipeline.ownSems0 osem d ∗ Pipeline.scopedRest cfg0.spec d) := by
  rw [show (dats m ρ 0 d).Φ (Fin.last cfg0.N) = Φ₁ d from rfl, scopedRest0_eq]
  have h := buf_scr (F := F) d
  unfold SCR at h
  unfold Φ₁
  iintro ⟨HS, HB⟩
  ihave HS := (SV_sems (F := F) d) $$ HS
  icases HS with ⟨H1, H2⟩
  isplitl [H1]; · iexact H1
  isplitl [H2]; · iexact H2
  iapply h; iexact HB

/-- The staging buffer's semaphore is no cell. -/
theorem dec_stage (w : Fin cfg0.W) (s : Fin ((cfg0.win w).nbuf)) : dec (.dma ((cfg0.win w).sem s)) = none := by
  unfold dec
  rw [dif_neg]
  rintro ⟨_ | o, h⟩
  · cases h
  · exact ownSemFacts.disj o w s h

theorem waits (d : Dev nD) : (levAts L lv : sProp 𝕄) ⊢ Pipeline.cellsWaits cfgs (dats m ρ) () 0 d :=
  Pipeline.cellsWaits_intro cfgs (dats m ρ) () 0 d fun w s t =>
    mayWait_stage d _ (dec_stage w s) _ (by
      rcases t with ⟨_ | _, ht⟩
      · exact Or.inl rfl
      · exact Or.inr rfl)

/-! ### The run -/

theorem keep_read (d : Dev nD) (s' : Phys nD τ sig (Elt F)) :
    iprop(keep m d ∗ SI s') ⊢ (iprop(⌜s'.mem.mem ((d : Thread nD τ).loc main_arg0) = m ((d : Thread nD τ).loc main_arg0)⌝ ∗ SI s') : sProp 𝕄) := by
  have h := pointsTo_read_all (Ix := Unit) (Name := ℕ) (U := UU) (Lvl := ℕ) ({d} : Finset (Dev nD)) (fun d => (d : Thread nD τ).loc main_arg0)
    (fun d => m ((d : Thread nD τ).loc main_arg0)) s' fullShare.right
  rw [bigSep_singleton] at h
  unfold keep
  refine (show _ ⊢ _ from h).trans ?_
  iintro ⟨%h, H⟩
  isplitr
  · ipureintro; exact h d (Finset.mem_singleton_self d)
  · iexact H

/-- The result array as the run leaves it. -/
def finalA (d : Dev nD) (w : Fin cfg0.W) : Buf (Elt F) ((cfg0.win w).arr.view.loc (d : Thread nD τ)) := (dats m ρ 0 d).arrAt w cfg0.N

set_option maxRecDepth 1000000 in
/-- From any memory with every counter at zero, every weakly fair execution of the program on the sixteen cores ends;
    every core's result array holds the result, its operand is as it was, and every counter is back at zero. -/
theorem run_main : θ_run defs (onTc (τ := τ) (Cert.KernelIdeal.main (F := F))) (s₀ m ρ) (fun r =>
    (∀ d : Dev nD, (∀ w : Fin cfg0.W, r.2.mem ((cfg0.win w).arr.view.loc (d : Thread nD τ)) = finalA m ρ d w)
        ∧ r.2.mem ((d : Thread nD τ).loc main_arg0) = m ((d : Thread nD τ).loc main_arg0))
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ Cert.KernelIdeal.main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun d => unscopedSems0 d) (Z := keep m)
    (hX := start_intro m ρ) (hin := phi0_intro m ρ) (hout := phi1_exit m ρ)
    (QY := fun d s => s.mem ((d : Thread nD τ).loc main_arg0) = m ((d : Thread nD τ).loc main_arg0)
      ∧ ∀ sm : SemLoc sig, sm.isScoped .tc = false → s.sem ((d.tc : Thread nD τ), sm) = 0)
    (hY := fun d s' => by
      iintro ⟨Hu, HZ, HSI⟩
      ihave H := (keep_read m d s') $$ [HZ HSI]
      · isplitl [HZ] <;> iassumption
      icases H with ⟨%h, HSI⟩
      imod (Pipeline.unscopedSems0_read (X := unscopedSems0 d) (c := d) fupd_intro s') $$ [Hu HSI] with ⟨%h', HSI⟩
      · isplitl [Hu] <;> iassumption
      imodintro
      isplitr
      · ipureintro; exact ⟨h, h'⟩
      · iexact HSI)
    (hQ := fun _ h hs => ⟨fun d => ⟨(h d).1, (h d).2.2.1⟩, sem_eq_zero hs fun d => (h d).2.2.2⟩)

end Cert.KernelIdeal.Body
end
-- ==== Proof.Ideal.Final.lean ====
/-
  The run read at the result array: every core's result ends at the computed contents, its operand as it began.
-/
module

public import proofs.«01_k».proof.Proof.Ideal.Launch
public import Idealize.ShloMosaic.Lib.Pipeline.Value

@[expose] public section

set_option synthInstance.maxSize 4096
set_option maxRecDepth 20000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- The one block of the result's window starts at the array's corner. -/
theorem corner : (fun a => win0_0.index t0_0 a * main_v1.ty.shape.size a) = fun _ => 0 := by
  funext a
  exact Nat.zero_mul _

/-- The result array, its one block written back at the one grid point, is what the body left there: the block is the
    whole array, so what the array reads there is all it holds. -/
theorem final_out (d : Dev nD) : finalA m ρ d 0 = OUT m d := by
  refine (dats m ρ 0 d).arrAt_eq_of_cover 0 (OUT m d) (fun t _ => ?_) fun i => ⟨t0_0, flush0_0 t0_0, ?_⟩
  · rw [fin_N0 t]
    exact (Memref.read_access_unit_zero (Elt F) main_v1 corner (fun a => by rw [congrFun corner a]; exact (Nat.zero_add _).le) (OUT m d)).symm
  · show i ∈ ((View.whole main_v1).slice (win0_0.rect t0_0)).set
    rw [View.set_slice_whole, Rect.set_eq_univ_of_whole (win0_0.rect t0_0) fun a => ⟨congrFun corner a, rfl, rfl⟩]
    exact Finset.mem_univ i

/-- From any memory with every counter at zero the program ends, with each core's result array at `OUT`, its operand
    unchanged, and every counter at zero. -/
theorem run_out : θ_run defs (onTc (τ := τ) (Cert.KernelIdeal.main (F := F))) ⟨m, fun _ => 0, ρ⟩ (fun r =>
    (∀ d : Dev nD, r.2.mem ((d : Thread nD τ).loc main_v1) = OUT m d
        ∧ r.2.mem ((d : Thread nD τ).loc main_arg0) = m ((d : Thread nD τ).loc main_arg0))
      ∧ r.2.sem = fun _ => 0) :=
  (θ_run defs _ _).mono (fun _ h => ⟨fun d => ⟨((h.1 d).1 0).trans (final_out m ρ d), (h.1 d).2⟩, h.2⟩) (run_main m ρ)

end Cert.KernelIdeal.Body
end
-- ==== Proof.Ideal.Value.lean ====
/-
  The result's value with exact arithmetic: on every core it is, entry by entry, the sum over the four ring places of
  the operand's blocks, at the columns the core owns; and that is the core's block of the reference's sum.
-/
module

public import proofs.«01_k».proof.Proof.Ideal.Final
public import proofs.«01_k».proof.Proof.Gen.ReferenceIdeal.Run
public import Idealize.ShloMosaic.Lib.IdealHost
public import Idealize.ShloMosaic.Lib.ValueLayout
public import Idealize.ShloMosaic.Lib.Pointwise.Reduce
public import Idealize.ShloMosaic.Lib.Pointwise.Reshape
public import Idealize.ShloMosaic.Lib.Layout

@[expose] public section

set_option synthInstance.maxSize 4096
set_option maxRecDepth 20000

noncomputable section

namespace Cert.KernelIdeal.Body

open Cert.KernelIdeal Cert.KernelIdeal.Gen
open Idealize.ShloMosaic hiding ix2 ix3
open Idealize.ShloMosaic.TcCoe
open Idealize.ShloMosaic.ValueIdx
open scoped BigOperators

/-! ### Where a load reads -/

/-- The first of a ring's columns in a core's own quarter, among all the operand's columns. -/
abbrev col0 (e : Dev nD) (sd : Side) : Nat := 1024 * (e.val % 4) + 256 * (e.val / 4) + (match sd with | .r => 0 | .l => 128)

theorem ldOff_0 : ∀ (j : Fin 4) (sd : Side) (e : Dev nD), ldOff e j sd 0 = 0 := by decide +kernel
theorem ldOff_1 : ∀ (j : Fin 4) (sd : Side) (e : Dev nD), ldOff e j sd 1 = 0 := by decide +kernel
theorem ldOff_2 : ∀ (sd : Side) (e : Dev nD), ldOff e 3 sd 2 = col0 e sd := by decide +kernel
theorem ldOff_2p : ∀ (sd : Side) (e : Dev nD), ldOff (pv e sd) 2 sd 2 = col0 e sd := by decide +kernel
theorem ldOff_2pp : ∀ (sd : Side) (e : Dev nD), ldOff (pv (pv e sd) sd) 1 sd 2 = col0 e sd := by decide +kernel
theorem ldOff_2ppp : ∀ (sd : Side) (e : Dev nD), ldOff (pv (pv (pv e sd) sd) sd) 0 sd 2 = col0 e sd := by decide +kernel

theorem blk_lt (b : Fin 8) (r : Fin 512) : 512 * b.val + r.val < 4096 := by omega
theorem col_lt (e : Dev nD) (sd : Side) (k : Fin 128) : col0 e sd + k.val < 4096 := by
  have h : e.val < 16 := e.isLt
  cases sd
  · show 1024 * (e.val % 4) + 256 * (e.val / 4) + 0 + k.val < 4096; omega
  · show 1024 * (e.val % 4) + 256 * (e.val / 4) + 128 + k.val < 4096; omega

variable (m : (ℓ : Loc nD τ sig) → Buf (Elt Ideal) ℓ)

/-- A staged row block reads the operand at its row and at the load's column. -/
theorem fab_apply (f : Dev nD) (j : Fin 4) (sd : Side) (b : Fin 8) (r : Fin 512) (k : Fin 128) (c : Nat)
    (hc : ldOff f j sd 2 = c) (hlt : c + k.val < 4096) :
    fab m f j sd b (ix3 (0 : Fin 1) r k) = xa m f (ix3 (0 : Fin 1) ⟨512 * b.val + r.val, blk_lt b r⟩ ⟨c + k.val, hlt⟩) := by
  show xa m f ((rLd f j sd).emb ((rBk b).emb (ix3 (0 : Fin 1) r k))) = _
  refine congrArg (xa m f) (funext fun a => Fin.ext ?_)
  rw [ValueKit.rect_emb_unit_val, ValueKit.rect_emb_unit_val]
  fin_cases a
  · show ldOff f j sd 0 + (0 + 0) = 0
    rw [ldOff_0]
  · show ldOff f j sd 1 + (512 * b.val + r.val) = 512 * b.val + r.val
    rw [ldOff_1, Nat.zero_add]
  · show ldOff f j sd 2 + (0 + k.val) = c + k.val
    rw [hc, Nat.zero_add]

/-! ### What the ring sends, entry by entry -/

/-- The first chunk is the staged block, entry by entry: a change of format is the identity. -/
theorem first_apply (A : Vec Ideal S1x512x128 .f32) (r : Fin 512) (k : Fin 128) :
    (k0_pay1 A (ix2 r k) : EReal) = A (ix3 (0 : Fin 1) r k) := by
  unfold k0_pay1
  exact (congrFun (shapeCast_id (α := EReal) _ _) _).trans (shapeCast_1ab_ab_apply (α := EReal) _ _ r k)

/-- A hop's step is addition, entry by entry. -/
theorem step_apply (A : Vec Ideal S1x512x128 .f32) (B : Vec Ideal S1x512x128 .bf16) (r : Fin 512) (k : Fin 128) :
    (k0_pay19 A B (ix3 (0 : Fin 1) r k) : EReal) = A (ix3 (0 : Fin 1) r k) + B (ix3 (0 : Fin 1) r k) := by
  unfold k0_pay19
  refine (shapeCast_ab_1ab_apply (α := EReal) _ _ 0 r k).trans ?_
  exact congrArg₂ (fun a b : EReal => a + b) (shapeCast_1ab_ab_apply (α := EReal) _ _ r k) (shapeCast_1ab_ab_apply (α := EReal) _ _ r k)

/-- So is the last step. -/
theorem last_apply (A : Vec Ideal S1x512x128 .f32) (B : Vec Ideal S1x512x128 .bf16) (r : Fin 512) (k : Fin 128) :
    (k0_pay61 A B (ix2 r k) : EReal) = A (ix3 (0 : Fin 1) r k) + B (ix3 (0 : Fin 1) r k) := by
  unfold k0_pay61
  exact congrArg₂ (fun a b : EReal => a + b) (shapeCast_1ab_ab_apply (α := EReal) _ _ r k) (shapeCast_1ab_ab_apply (α := EReal) _ _ r k)

theorem up_apply (Y : Vec Ideal S512x128 .bf16) (r : Fin 512) (k : Fin 128) : (up Y (ix3 (0 : Fin 1) r k) : EReal) = Y (ix2 r k) :=
  shapeCast_ab_1ab_apply (α := EReal) Y _ 0 r k
theorem dn_apply (Y : Vec Ideal S1x512x128 .bf16) (r : Fin 512) (k : Fin 128) : (dn Y (ix2 r k) : EReal) = Y (ix3 (0 : Fin 1) r k) :=
  shapeCast_1ab_ab_apply (α := EReal) Y _ r k

/-- What a hop passes on is the core's own block plus what arrived. -/
theorem hop_apply (A : Vec Ideal S1x512x128 .f32) (Y : Vec Ideal S512x128 .bf16) (r : Fin 512) (k : Fin 128) :
    (dn (k0_pay19 A (up Y)) (ix2 r k) : EReal) = A (ix3 (0 : Fin 1) r k) + Y (ix2 r k) := by
  rw [dn_apply, step_apply, up_apply]

/-- A row block of a ring's half of a quarter is the sum of four cores' operands: the owner's and the three before it. -/
theorem OB_apply (e : Dev nD) (sd : Side) (b : Fin 8) (r : Fin 512) (k : Fin 128) :
    OB m e sd b (ix2 r k) =
      (let i : S1x4096x4096.Idx := ix3 (0 : Fin 1) ⟨512 * b.val + r.val, blk_lt b r⟩ ⟨col0 e sd + k.val, col_lt e sd k⟩
       xa m e i + (xa m (pv e sd) i + (xa m (pv (pv e sd) sd) i + xa m (pv (pv (pv e sd) sd) sd) i)) : EReal) := by
  dsimp only
  unfold OB RR CC
  dsimp only
  rw [last_apply, up_apply, fab_apply m e 3 sd b r k _ (ldOff_2 sd e) (col_lt e sd k)]
  unfold C2
  rw [hop_apply, fab_apply m (pv e sd) 2 sd b r k _ (ldOff_2p sd e) (col_lt e sd k)]
  unfold C1
  rw [hop_apply, fab_apply m (pv (pv e sd) sd) 1 sd b r k _ (ldOff_2pp sd e) (col_lt e sd k)]
  unfold C0
  rw [first_apply, fab_apply m (pv (pv (pv e sd) sd) sd) 0 sd b r k _ (ldOff_2ppp sd e) (col_lt e sd k)]

/-! ### The sum over the ring -/

/-- A core's place in the rings. -/
abbrev zOf (e : Dev nD) : Fin 4 := ⟨e.val % 4, Nat.mod_lt _ (by decide)⟩

theorem pv_z : ∀ (sd : Side) (e : Dev nD), zOf (pv e sd) = zOf e + (match sd with | .r => 3 | .l => 1) := by decide +kernel

/-- The four cores the sum runs over are at the four places, each once. -/
theorem ring_sum (e : Dev nD) (sd : Side) (g : Fin 4 → EReal) :
    g (zOf e) + (g (zOf (pv e sd)) + (g (zOf (pv (pv e sd) sd)) + g (zOf (pv (pv (pv e sd) sd) sd)))) = ∑ z, g z := by
  simp only [pv_z]
  rw [Fin.sum_univ_four]
  generalize zOf e = z
  cases sd <;> fin_cases z <;> simp only [Fin.zero_eta, Fin.mk_one, Fin.reduceFinMk, Fin.reduceAdd, zero_add] <;> abel

/-! ### Against the reference -/

/-- The whole operand, of which each core holds the plane its ring place names. -/
abbrev Whole : Type := (⟨3, ![4, 4096, 4096]⟩ : Shape).Idx → EReal

/-- Each core's operand is its plane of the whole. -/
def Planes (X : Whole) : Prop := ∀ c : Dev nD,
  (m ((c : Thread nD τ).loc main_arg0) : (⟨3, ![1, 4096, 4096]⟩ : Shape).Idx → EReal)
    = Layout.blockN ⟨3, ![1, 4096, 4096]⟩ ⟨3, ![4, 4096, 4096]⟩ (Layout.meshBlock [2, 2, 4] ![[2], [], []] c) X

variable {m}

theorem plane_apply {X : Whole} (h : Planes m X) (c : Dev nD) (r k : Fin 4096) :
    (xa m c (ix3 (0 : Fin 1) r k) : EReal) = X (ix3 (zOf c) r k) := by
  refine (congrFun (h c) _).trans (congrArg X (funext fun a => Fin.ext ?_))
  rw [Layout.TilesN.idx_val]
  fin_cases a
  · show Layout.meshLin [2, 2, 4] c.val [2] * 1 + 0 = c.val % 4
    simp [Layout.meshLin, Layout.meshCoord, Layout.cutSize]
  · show Layout.meshLin [2, 2, 4] c.val [] * 4096 + r.val = r.val
    simp [Layout.meshLin]
  · show Layout.meshLin [2, 2, 4] c.val [] * 4096 + k.val = k.val
    simp [Layout.meshLin]

/-- The result, entry by entry: the sum of the four planes at the entry's row and at its column among the core's. -/
theorem OUT_apply {X : Whole} (h : Planes m X) (d : Dev nD) (i : Fin 4096) (k : Fin 1024) :
    (OUT m d (ix2 i k) : EReal) = ∑ z, X (ix3 z i ⟨1024 * (d.val % 4) + k.val, by omega⟩) := by
  have hd : d.val < 16 := d.isLt
  have hidx : ∀ (p : ∀ a, ![i.val % 512, k.val % 128] a < S512x128.size a),
      (fun a => ⟨![i.val % 512, k.val % 128] a, p a⟩ : S512x128.Idx)
        = ix2 (⟨i.val % 512, Nat.mod_lt _ (by decide)⟩ : Fin 512) (⟨k.val % 128, Nat.mod_lt _ (by decide)⟩ : Fin 128) := fun p => by
    funext a; fin_cases a <;> rfl
  refine (congrArg (OB m (dv d (k.val / 256) (by omega)) (sideOf k.val) ⟨i.val / 512, by omega⟩) (hidx _)).trans ?_
  refine (OB_apply m _ _ _ _ _).trans ?_
  dsimp only
  rw [plane_apply h, plane_apply h, plane_apply h, plane_apply h]
  refine (ring_sum (dv d (k.val / 256) (by omega)) (sideOf k.val) (fun z => X (ix3 z _ _))).trans ?_
  refine Finset.sum_congr rfl fun z _ => ?_
  congr 2
  · exact Fin.ext (by show 512 * (i.val / 512) + i.val % 512 = i.val; omega)
  · refine Fin.ext ?_
    show col0 (dv d (k.val / 256) _) (sideOf k.val) + k.val % 128 = 1024 * (d.val % 4) + k.val
    unfold sideOf col0
    have := k.isLt
    split <;> rename_i hs <;> split at hs <;> simp_all <;> omega

/-- The reference's result: the sum of the planes from zero, entry by entry. -/
theorem ref_apply (X : Whole) (i k : Fin 4096) :
    (truncf (F := Ideal) .bf16 (Host.reduceAdd (F := Ideal) (φ := .f32) X (constant (F := Ideal) Cert.ReferenceIdeal.S_ .f32 0x00000000#32)
        Cert.ReferenceIdeal.Gen.reducesTo_S4x4096x4096_S4096x4096_d0 Cert.ReferenceIdeal.Gen.h_S_) Cert.ReferenceIdeal.Gen.bitsLt_bf16_f32 (ix2 i k) : EReal)
      = ∑ z, X (ix3 z i k) := by
  show Host.reduceAdd (F := Ideal) (φ := .f32) X (constant (F := Ideal) Cert.ReferenceIdeal.S_ .f32 0x00000000#32)
        Cert.ReferenceIdeal.Gen.reducesTo_S4x4096x4096_S4096x4096_d0 Cert.ReferenceIdeal.Gen.h_S_ (ix2 i k) = _
  rw [hostReduceAdd_apply]
  refine (Ideal.hostReduceAdd_r3_a0 _ X _ _).trans ?_
  have h0 : (constant (F := Ideal) Cert.ReferenceIdeal.S_ .f32 0x00000000#32 (Shape.Idx.first Cert.ReferenceIdeal.Gen.h_S_) : EReal) = 0 :=
    Ideal.ofBits_zero_f32
  rw [h0, zero_add]
  rfl

/-- Each core's result is its block of columns of the reference's result. -/
theorem OUT_ref {X : Whole} (h : Planes m X) (d : Dev nD) :
    (OUT m d : (⟨2, ![4096, 1024]⟩ : Shape).Idx → EReal) = Layout.blockN ⟨2, ![4096, 1024]⟩ ⟨2, ![4096, 4096]⟩ (Layout.meshBlock [2, 2, 4] ![[], [2]] d)
      (truncf (F := Ideal) .bf16 (Host.reduceAdd (F := Ideal) (φ := .f32) X (constant (F := Ideal) Cert.ReferenceIdeal.S_ .f32 0x00000000#32)
        Cert.ReferenceIdeal.Gen.reducesTo_S4x4096x4096_S4096x4096_d0 Cert.ReferenceIdeal.Gen.h_S_) Cert.ReferenceIdeal.Gen.bitsLt_bf16_f32) := by
  funext i
  obtain ⟨a, b, rfl⟩ : ∃ (a : Fin 4096) (b : Fin 1024), i = ix2 a b := ⟨i 0, i 1, by funext x; fin_cases x <;> rfl⟩
  refine (OUT_apply h d a b).trans ((ref_apply X _ _).symm.trans ?_)
  rw [Layout.blockN_apply]
  refine congrArg _ (funext fun x => Fin.ext ?_)
  rw [Layout.TilesN.idx_val]
  fin_cases x
  · show a.val = Layout.meshLin [2, 2, 4] d.val [] * 4096 + a.val
    simp [Layout.meshLin]
  · show 1024 * (d.val % 4) + b.val = Layout.meshLin [2, 2, 4] d.val [2] * 1024 + b.val
    simp [Layout.meshLin, Layout.meshCoord, Layout.cutSize]; omega

end Cert.KernelIdeal.Body
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Ideal.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame: the run with its result forgotten. -/
theorem frame_p : Cert.quiescent_Kernel := fun m g _ =>
  (θ_run Cert.Kernel.defs _ _).mono (fun _ h => ⟨fun c => (h.1 c).2, h.2⟩) (Cert.Kernel.Body.run_out m g)

/-- The frame of the kernel read with exact arithmetic, likewise. -/
theorem frame_pi : Cert.quiescent_KernelIdeal := fun m g _ =>
  (θ_run Cert.KernelIdeal.defs _ _).mono (fun _ h => ⟨fun c => (h.1 c).2, h.2⟩) (Cert.KernelIdeal.Body.run_out m g)

/-- The reference's frame: its run, and it has no counter. -/
theorem frame_ri : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- With exact arithmetic every core's result is its block of columns of the reference's result: the sum over the four
    planes, which each ring adds in its own order. -/
theorem algebraic : Cert.algebraic_KernelIdeal_ReferenceIdeal := fun m g m' g' _ hagree =>
  ⟨_,
    (θ_run Cert.KernelIdeal.defs _ _).mono
      (fun _ h c => ⟨(h.1 c).1.trans (Cert.KernelIdeal.Body.OUT_ref hagree c), (h.1 c).2⟩) (Cert.KernelIdeal.Body.run_out m g),
    (θ_run Cert.ReferenceIdeal.defs _ _).mono (fun _ h => ⟨(h 0).1, (h 0).2⟩) (Cert.ReferenceIdeal.Value.run m' g')⟩

theorem claim : Cert.Claim := ⟨Cert.Kernel.Gen.facts, Cert.KernelIdeal.Gen.facts, Cert.ReferenceIdeal.Gen.facts,
  frame_p, frame_pi, frame_ri, trivial, algebraic⟩

end Cert.Proof

end
